-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x2048x1024 : Shape := ⟨3, ![1, 2048, 1024]⟩
abbrev S1024x64 : Shape := ⟨2, ![1024, 64]⟩
abbrev S64 : Shape := ⟨1, ![64]⟩
abbrev S1 : Shape := ⟨1, ![1]⟩
abbrev S32768x64 : Shape := ⟨2, ![32768, 64]⟩
abbrev S_ : Shape := ⟨0, ![]⟩

class Facts : Prop where
  bcast_S_S1x2048x1024 : S_.BroadcastsInDim S1x2048x1024 (![] : Fin 0 → Fin S1x2048x1024.rank)
  reducesTo_S1x2048x1024_S_d0_1_2 : S1x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S64 .f32) (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S1x2048x1024 .f32) (main_arg1 : FVec F S1024x64 .f32) (main_arg2 : FVec F S64 .f32) (main_arg3 : FVec F S1024x64 .f32) (main_arg4 : FVec F S64 .f32) (main_arg5 : FVec F S1024x64 .f32) (main_arg6 : FVec F S64 .f32) (main_arg7 : FVec F S1 .f32) (main_arg8 : FVec F S32768x64 .f32) (main_arg9 : FVec F S32768x64 .f32) : IVec S_ 1 :=
  let main_v0 : FVec F S1x2048x1024 .f32 := Host.absf main_arg0
  let main_cst : FVec F S_ .f32 := constant S_ .f32 0x7F800000#32
  let main_v1 : FVec F S1x2048x1024 .f32 := broadcastInDim S1x2048x1024 ![] bcast_S_S1x2048x1024 main_cst
  let main_v2 : IVec S1x2048x1024 1 := cmpf .olt main_v0 main_v1
  let main_c : IVec S_ 1 := constantI S_ 1 1#1
  let main_v3 : IVec S_ 1 := (fun x v => Host.reduce IntOp.andi x v reducesTo_S1x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_arg4 main_v13 main_v16
-- ==== Kernel.lean ====
abbrev S1x2048x1024 : Shape := ⟨3, ![1, 2048, 1024]⟩
abbrev S1024x64 : Shape := ⟨2, ![1024, 64]⟩
abbrev S64 : Shape := ⟨1, ![64]⟩
abbrev S1 : Shape := ⟨1, ![1]⟩
abbrev S32768x64 : Shape := ⟨2, ![32768, 64]⟩
abbrev S1x64 : Shape := ⟨2, ![1, 64]⟩
abbrev S1025x64 : Shape := ⟨2, ![1025, 64]⟩
abbrev S1x1025x64 : Shape := ⟨3, ![1, 1025, 64]⟩
abbrev S3x1025x64 : Shape := ⟨3, ![3, 1025, 64]⟩
abbrev S1x2048x64 : Shape := ⟨3, ![1, 2048, 64]⟩
abbrev S1x256x1024 : Shape := ⟨3, ![1, 256, 1024]⟩
abbrev S1024x192 : Shape := ⟨2, ![1024, 192]⟩
abbrev S1x192 : Shape := ⟨2, ![1, 192]⟩
abbrev S2048x64 : Shape := ⟨2, ![2048, 64]⟩
abbrev S64x2048 : Shape := ⟨2, ![64, 2048]⟩
abbrev S2048x128 : Shape := ⟨2, ![2048, 128]⟩
abbrev S1x1024x64 : Shape := ⟨3, ![1, 1024, 64]⟩
abbrev S1x1x64 : Shape := ⟨3, ![1, 1, 64]⟩
abbrev S256x1024 : Shape := ⟨2, ![256, 1024]⟩
abbrev S256x192 : Shape := ⟨2, ![256, 192]⟩
abbrev S256x64 : Shape := ⟨2, ![256, 64]⟩
abbrev S64x256 : Shape := ⟨2, ![64, 256]⟩
abbrev S256x1 : Shape := ⟨2, ![256, 1]⟩
abbrev S256x63 : Shape := ⟨2, ![256, 63]⟩
abbrev S256x128 : Shape := ⟨2, ![256, 128]⟩
abbrev S256x256 : Shape := ⟨2, ![256, 256]⟩
abbrev S1x256x64 : Shape := ⟨3, ![1, 256, 64]⟩
abbrev S64x512 : Shape := ⟨2, ![64, 512]⟩
abbrev S256x512 : Shape := ⟨2, ![256, 512]⟩
abbrev S512x128 : Shape := ⟨2, ![512, 128]⟩
abbrev S64x768 : Shape := ⟨2, ![64, 768]⟩
abbrev S256x768 : Shape := ⟨2, ![256, 768]⟩
abbrev S768x128 : Shape := ⟨2, ![768, 128]⟩
abbrev S64x1024 : Shape := ⟨2, ![64, 1024]⟩
abbrev S1024x128 : Shape := ⟨2, ![1024, 128]⟩
abbrev S64x1280 : Shape := ⟨2, ![64, 1280]⟩
abbrev S256x1280 : Shape := ⟨2, ![256, 1280]⟩
abbrev S1280x128 : Shape := ⟨2, ![1280, 128]⟩
abbrev S64x1536 : Shape := ⟨2, ![64, 1536]⟩
abbrev S256x1536 : Shape := ⟨2, ![256, 1536]⟩
abbrev S1536x128 : Shape := ⟨2, ![1536, 128]⟩
abbrev S64x1792 : Shape := ⟨2, ![64, 1792]⟩
abbrev S256x1792 : Shape := ⟨2, ![256, 1792]⟩
abbrev S1792x128 : Shape := ⟨2, ![1792, 128]⟩
abbrev S256x2048 : Shape := ⟨2, ![256, 2048]⟩

abbrev nBuf : Space → Nat
  | .hbm => 21
  | .vmem => 9
  | .smem => 0
  | _ => 0

abbrev bufTy : (tb : Table) → Fin (tcTables nBuf tb) → BufTy
  | .hbm, ⟨0, _⟩ => ⟨S1x2048x1024, .f32⟩
  | .hbm, ⟨1, _⟩ => ⟨S1024x64, .f32⟩
  | .hbm, ⟨2, _⟩ => ⟨S64, .f32⟩
  | .hbm, ⟨3, _⟩ => ⟨S1024x64, .f32⟩
  | .hbm, ⟨4, _⟩ => ⟨S64, .f32⟩
  | .hbm, ⟨5, _⟩ => ⟨S1024x64, .f32⟩
  | .hbm, ⟨6, _⟩ => ⟨S64, .f32⟩
  | .hbm, ⟨7, _⟩ => ⟨S1, .f32⟩
  | .hbm, ⟨8, _⟩ => ⟨S32768x64, .f32⟩
  | .hbm, ⟨9, _⟩ => ⟨S32768x64, .f32⟩
  | .hbm, ⟨10, _⟩ => ⟨S1x64, .f32⟩
  | .hbm, ⟨11, _⟩ => ⟨S1025x64, .f32⟩
  | .hbm, ⟨12, _⟩ => ⟨S1x64, .f32⟩
  | .hbm, ⟨13, _⟩ => ⟨S1025x64, .f32⟩
  | .hbm, ⟨14, _⟩ => ⟨S1x64, .f32⟩
  | .hbm, ⟨15, _⟩ => ⟨S1025x64, .f32⟩
  | .hbm, ⟨16, _⟩ => ⟨S1x1025x64, .f32⟩
  | .hbm, ⟨17, _⟩ => ⟨S1x1025x64, .f32⟩
  | .hbm, ⟨18, _⟩ => ⟨S1x1025x64, .f32⟩
  | .hbm, ⟨19, _⟩ => ⟨S3x1025x64, .f32⟩
  | .hbm, ⟨20, _⟩ => ⟨S1x2048x64, .f32⟩
  | .local _ .vmem, ⟨0, _⟩ => ⟨S1x256x1024, .f32⟩
  | .local _ .vmem, ⟨1, _⟩ => ⟨S1x256x1024, .f32⟩
  | .local _ .vmem, ⟨2, _⟩ => ⟨S3x1025x64, .f32⟩
  | .local _ .vmem, ⟨3, _⟩ => ⟨S1x2048x64, .f32⟩
  | .local _ .vmem, ⟨4, _⟩ => ⟨S1024x192, .bf16⟩
  | .local _ .vmem, ⟨5, _⟩ => ⟨S1x192, .f32⟩
  | .local _ .vmem, ⟨6, _⟩ => ⟨S2048x64, .bf16⟩
  | .local _ .vmem, ⟨7, _⟩ => ⟨S64x2048, .bf16⟩
  | .local _ .vmem, ⟨8, _⟩ => ⟨S2048x128, .bf16⟩
  | _, _ => ⟨S1x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![9], ![false]⟩

def k0_cond2 (i : grid0.Coords) : BitVec 1 :=
  let arg0 : BitVec 32 := BitVec.ofNat 32 (i 0).val
  let c8_i32 : BitVec 32 := 8#32
  let v3 : BitVec 1 := Scalar.cmpi .slt arg0 c8_i32
  let v4 : BitVec 32 := Scalar.extui v3
  let c0_i32_1 : BitVec 32 := 0#32
  let v5 : BitVec 1 := Scalar.cmpi .ne v4 c0_i32_1
  v5

def k0_off1 (i : grid0.Coords) : Fin 2 → Nat :=
  let arg0 : BitVec 32 := BitVec.ofNat 32 (i 0).val
  let c256_i32 : BitVec 32 := 256#32
  let v12 : BitVec 32 := Scalar.muli arg0 c256_i32
  let v20 : Index := Scalar.indexCast v12
  let c0_10 : Index := 0#32
  ![v20.toNat, 0]
def k0_off2 (i : grid0.Coords) : Fin 2 → Nat :=
  let c0_11 : Index := 0#32
  let arg0 : BitVec 32 := BitVec.ofNat 32 (i 0).val
  let c256_i32 : BitVec 32 := 256#32
  let v12 : BitVec 32 := Scalar.muli arg0 c256_i32
  let v26 : Index := Scalar.indexCast v12
  ![0, v26.toNat]
def k0_off3 (i : grid0.Coords) : Fin 2 → Nat :=
  let arg0 : BitVec 32 := BitVec.ofNat 32 (i 0).val
  let c256_i32 : BitVec 32 := 256#32
  let v12 : BitVec 32 := Scalar.muli arg0 c256_i32
  let v34 : Index := Scalar.indexCast v12
  let c0_14 : Index := 0#32
  ![v34.toNat, 0]
def k0_cond3 (i : grid0.Coords) : BitVec 1 :=
  let arg0 : BitVec 32 := BitVec.ofNat 32 (i 0).val
  let c8_i32_2 : BitVec 32 := 8#32
  let v6 : BitVec 1 := Scalar.cmpi .eq arg0 c8_i32_2
  let v7 : BitVec 32 := Scalar.extui v6
  let c0_i32_3 : BitVec 32 := 0#32
  let v8 : BitVec 1 := Scalar.cmpi .ne v7 c0_i32_3
  v8

def cc0_transform_0 (i : grid0.Coords) : Fin 3 → Nat :=
  let arg0 : BitVec 32 := BitVec.ofNat 32 (i 0).val
  let c7_i32 : BitVec 32 := 7#32
  let v0 : BitVec 32 := Scalar.minsi arg0 c7_i32
  let c0_i32 : BitVec 32 := 0#32
  let c0_i32_0 : BitVec 32 := 0#32
  let c0_i32_1 : BitVec 32 := 0#32
  ![c0_i32.toNat, v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x1025x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1x2048x1024 : Shape := ⟨3, ![1, 2048, 1024]⟩
abbrev S1024x64 : Shape := ⟨2, ![1024, 64]⟩
abbrev S64 : Shape := ⟨1, ![64]⟩
abbrev S1 : Shape := ⟨1, ![1]⟩
abbrev S32768x64 : Shape := ⟨2, ![32768, 64]⟩
abbrev S1x2048x64 : Shape := ⟨3, ![1, 2048, 64]⟩
abbrev S1x1x64 : Shape := ⟨3, ![1, 1, 64]⟩
abbrev S1x64x2048 : Shape := ⟨3, ![1, 64, 2048]⟩
abbrev S2048x64 : Shape := ⟨2, ![2048, 64]⟩
abbrev S64x2048 : Shape := ⟨2, ![64, 2048]⟩
abbrev S2048x2048 : Shape := ⟨2, ![2048, 2048]⟩
abbrev S1x2048x2048 : Shape := ⟨3, ![1, 2048, 2048]⟩
abbrev S_ : Shape := ⟨0, ![]⟩
abbrev S1x2048 : Shape := ⟨2, ![1, 2048]⟩
abbrev S1x2048x1 : Shape := ⟨3, ![1, 2048, 1]⟩
abbrev S34816x64 : Shape := ⟨2, ![34816, 64]⟩
abbrev S64x34816 : Shape := ⟨2, ![64, 34816]⟩
abbrev S2048x34816 : Shape := ⟨2, ![2048, 34816]⟩
abbrev S2048x32 : Shape := ⟨2, ![2048, 32]⟩
abbrev S2048x32x1 : Shape := ⟨3, ![2048, 32, 1]⟩
abbrev S1x1x1 : Shape := ⟨3, ![1, 1, 1]⟩
abbrev S2048x32x64 : Shape := ⟨3, ![2048, 32, 64]⟩
abbrev S1x2048x32x64 : Shape := ⟨4, ![1, 2048, 32, 64]⟩
abbrev S1x2048x1x64 : Shape := ⟨4, ![1, 2048, 1, 64]⟩
abbrev S1x2048x64x32 : Shape := ⟨4, ![1, 2048, 64, 32]⟩
abbrev S2048x1x64 : Shape := ⟨3, ![2048, 1, 64]⟩
abbrev S2048x64x32 : Shape := ⟨3, ![2048, 64, 32]⟩
abbrev S2048x1x32 : Shape := ⟨3, ![2048, 1, 32]⟩
abbrev S1x2048x1x32 : Shape := ⟨4, ![1, 2048, 1, 32]⟩
abbrev S1x2048x1x1 : Shape := ⟨4, ![1, 2048, 1, 1]⟩

abbrev nBuf : Space → Nat
  | .hbm => 162
  | .vmem => 0
  | .smem => 0
  | _ => 0

abbrev hbmTy0_0 (i : Nat) : BufTy := match i % 128 with
  | 0 => ⟨S1x2048x1024, .f32⟩
  | 1 => ⟨S1024x64, .f32⟩
  | 2 => ⟨S64, .f32⟩
  | 3 => ⟨S1024x64, .f32⟩
  | 4 => ⟨S64, .f32⟩
  | 5 => ⟨S1024x64, .f32⟩
  | 6 => ⟨S64, .f32⟩
  | 7 => ⟨S1, .f32⟩
  | 8 => ⟨S32768x64, .f32⟩
  | 9 => ⟨S32768x64, .f32⟩
  | 10 => ⟨S1x2048x64, .f32⟩
  | 11 => ⟨S1x1x64, .f32⟩
  | 12 => ⟨S1x2048x64, .f32⟩
  | 13 => ⟨S1x2048x64, .f32⟩
  | 14 => ⟨S1x2048x64, .f32⟩
  | 15 => ⟨S1x1x64, .f32⟩
  | 16 => ⟨S1x2048x64, .f32⟩
  | 17 => ⟨S1x2048x64, .f32⟩
  | 18 => ⟨S1x2048x64, .f32⟩
  | 19 => ⟨S1x1x64, .f32⟩
  | 20 => ⟨S1x2048x64, .f32⟩
  | 21 => ⟨S1x2048x64, .f32⟩
  | 22 => ⟨S1x64x2048, .f32⟩
  | 23 => ⟨S2048x64, .f32⟩
  | 24 => ⟨S64x2048, .f32⟩
  | 25 => ⟨S2048x2048, .f32⟩
  | 26 => ⟨S1x2048x2048, .f32⟩
  | 27 => ⟨S_, .f32⟩
  | 28 => ⟨S1x2048x2048, .f32⟩
  | 29 => ⟨S1x2048x2048, .f32⟩
  | 30 => ⟨S_, .f32⟩
  | 31 => ⟨S2048x2048, .f32⟩
  | 32 => ⟨S2048x2048, .i32⟩
  | 33 => ⟨S_, .i32⟩
  | 34 => ⟨S2048x2048, .i32⟩
  | 35 => ⟨S2048x2048, .i32⟩
  | 36 => ⟨S2048x2048, .i32⟩
  | 37 => ⟨S2048x2048, .i1⟩
  | 38 => ⟨S_, .f32⟩
  | 39 => ⟨S2048x2048, .f32⟩
  | 40 => ⟨S2048x2048, .f32⟩
  | 41 => ⟨S_, .f32⟩
  | 42 => ⟨S2048x2048, .f32⟩
  | 43 => ⟨S2048x2048, .i1⟩
  | 44 => ⟨S_, .f32⟩
  | 45 => ⟨S_, .f32⟩
  | 46 => ⟨S1x2048x2048, .i1⟩
  | 47 => ⟨S1x2048x2048, .f32⟩
  | 48 => ⟨S1x2048x2048, .f32⟩
  | 49 => ⟨S_, .f32⟩
  | 50 => ⟨S1x2048, .f32⟩
  | 51 => ⟨S_, .f32⟩
  | 52 => ⟨S1x2048, .f32⟩
  | 53 => ⟨S1x2048, .f32⟩
  | 54 => ⟨S1x2048x1, .f32⟩
  | 55 => ⟨S1x2048x2048, .f32⟩
  | 56 => ⟨S1x2048x2048, .f32⟩
  | 57 => ⟨S1x2048x2048, .f32⟩
  | 58 => ⟨S_, .f32⟩
  | 59 => ⟨S1x2048, .f32⟩
  | 60 => ⟨S1x2048x1, .f32⟩
  | 61 => ⟨S1x2048x2048, .f32⟩
  | 62 => ⟨S1x2048x2048, .f32⟩
  | 63 => ⟨S2048x2048, .f32⟩
  | 64 => ⟨S2048x64, .f32⟩
  | 65 => ⟨S2048x64, .f32⟩
  | 66 => ⟨S1x2048x64, .f32⟩
  | 67 => ⟨S2048x64, .f32⟩
  | 68 => ⟨S34816x64, .f32⟩
  | 69 => ⟨S2048x64, .f32⟩
  | 70 => ⟨S34816x64, .f32⟩
  | 71 => ⟨S2048x64, .f32⟩
  | 72 => ⟨S64x34816, .f32⟩
  | 73 => ⟨S2048x34816, .f32⟩
  | 74 => ⟨S2048x32, .f32⟩
  | 75 => ⟨S2048x32, .i32⟩
  | 76 => ⟨S_, .i32⟩
  | 77 => ⟨S2048x32, .i32⟩
  | 78 => ⟨S2048x32, .i1⟩
  | 79 => ⟨S_, .i32⟩
  | 80 => ⟨S2048x32, .i32⟩
  | 81 => ⟨S2048x32, .i32⟩
  | 82 => ⟨S2048x32, .i32⟩
  | 83 => ⟨S2048x32x1, .i32⟩
  | 84 => ⟨S1, .i32⟩
  | 85 => ⟨S_, .i32⟩
  | 86 => ⟨S2048x32x1, .i32⟩
  | 87 => ⟨S2048x32x1, .i1⟩
  | 88 => ⟨S1x1x1, .i32⟩
  | 89 => ⟨S2048x32x1, .i32⟩
  | 90 => ⟨S2048x32x1, .i1⟩
  | 91 => ⟨S2048x32x1, .i1⟩
  | 92 => ⟨S_, .i1⟩
  | 93 => ⟨S2048x32, .i1⟩
  | 94 => ⟨S2048x32x64, .f32⟩
  | 95 => ⟨S2048x32x64, .i1⟩
  | 96 => ⟨S_, .f32⟩
  | 97 => ⟨S2048x32x64, .f32⟩
  | 98 => ⟨S2048x32x64, .f32⟩
  | 99 => ⟨S1x2048x32x64, .f32⟩
  | 100 => ⟨S_, .i32⟩
  | 101 => ⟨S2048x32, .i32⟩
  | 102 => ⟨S2048x32, .i1⟩
  | 103 => ⟨S_, .i32⟩
  | 104 => ⟨S2048x32, .i32⟩
  | 105 => ⟨S2048x32, .i32⟩
  | 106 => ⟨S2048x32, .i32⟩
  | 107 => ⟨S2048x32x1, .i32⟩
  | 108 => ⟨S1, .i32⟩
  | 109 => ⟨S_, .i32⟩
  | 110 => ⟨S2048x32x1, .i32⟩
  | 111 => ⟨S2048x32x1, .i1⟩
  | 112 => ⟨S1x1x1, .i32⟩
  | 113 => ⟨S2048x32x1, .i32⟩
  | 114 => ⟨S2048x32x1, .i1⟩
  | 115 => ⟨S2048x32x1, .i1⟩
  | 116 => ⟨S_, .i1⟩
  | 117 => ⟨S2048x32, .i1⟩
  | 118 => ⟨S2048x32x64, .f32⟩
  | 119 => ⟨S2048x32x64, .i1⟩
  | 120 => ⟨S_, .f32⟩
  | 121 => ⟨S2048x32x64, .f32⟩
  | 122 => ⟨S2048x32x64, .f32⟩
  | 123 => ⟨S1x2048x32x64, .f32⟩
  | 124 => ⟨S1x2048x1x64, .f32⟩
  | 125 => ⟨S1x2048x64x32, .f32⟩
  | 126 => ⟨S2048x1x64, .f32⟩
  | 127 => ⟨S2048x64x32, .f32⟩
  | _ => ⟨S1x2048x1024, .f32⟩

abbrev hbmTy0_1 (i : Nat) : BufTy := match i % 128 with
  | 0 => ⟨S2048x1x32, .f32⟩
  | 1 => ⟨S1x2048x1x32, .f32⟩
  | 2 => ⟨S_, .f32⟩
  | 3 => ⟨S1x2048x1x32, .f32⟩
  | 4 => ⟨S1x2048x1x32, .f32⟩
  | 5 => ⟨S_, .f32⟩
  | 6 => ⟨S1x2048x1, .f32⟩
  | 7 => ⟨S_, .f32⟩
  | 8 => ⟨S1x2048x1, .f32⟩
  | 9 => ⟨S1x2048x1, .f32⟩
  | 10 => ⟨S1x2048x1x1, .f32⟩
  | 11 => ⟨S1x2048x1x32, .f32⟩
  | 12 => ⟨S1x2048x1x32, .f32⟩
  | 13 => ⟨S1x2048x1x32, .f32⟩
  | 14 => ⟨S_, .f32⟩
  | 15 => ⟨S1x2048x1, .f32⟩
  | 16 => ⟨S1x2048x1x1, .f32⟩
  | 17 => ⟨S1x2048x1x32, .f32⟩
  | 18 => ⟨S1x2048x1x32, .f32⟩
  | 19 => ⟨S2048x1x32, .f32⟩
  | 20 => ⟨S2048x32x64, .f32⟩
  | 21 => ⟨S2048x1x64, .f32⟩
  | 22 => ⟨S1x2048x1x64, .f32⟩
  | 23 => ⟨S1x2048x64, .f32⟩
  | 24 => ⟨S1x1x1, .f32⟩
  | 25 => ⟨S1x2048x64, .f32⟩
  | 26 => ⟨S1x2048x64, .f32⟩
  | 27 => ⟨S_, .f32⟩
  | 28 => ⟨S1, .f32⟩
  | 29 => ⟨S1, .f32⟩
  | 30 => ⟨S1x1x1, .f32⟩
  | 31 => ⟨S1x2048x64, .f32⟩
  | 32 => ⟨S1x2048x64, .f32⟩
  | 33 => ⟨S1x2048x64, .f32⟩
  | _ => ⟨S1x2048x1024, .f32⟩

abbrev hbmTy (i : Nat) : BufTy := match i / 128 with
  | 0 => hbmTy0_0 i
  | 1 => hbmTy0_1 i
  | _ => ⟨S1x2048x1024, .f32⟩

abbrev bufTy : (tb : Table) → Fin (tcTables nBuf tb) → BufTy
  | .hbm, ⟨i, _⟩ => hbmTy i
  | _, _ => ⟨S1x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_call0_v0 : Ref sig .tc := ⟨.hbm, 32, rfl⟩
abbrev main_call0_c : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_call0_cst : Ref sig .tc := ⟨.hbm, 38, rfl⟩
abbrev main_call0_v5 : Ref sig .tc := ⟨.hbm, 39, rfl⟩
abbrev main_v20 : Ref sig .tc := ⟨.hbm, 40, rfl⟩
abbrev main_cst_1 : Ref sig .tc := ⟨.hbm, 41, rfl⟩
abbrev main_v21 : Ref sig .tc := ⟨.hbm, 42, rfl⟩
abbrev main_v22 : Ref sig .tc := ⟨.hbm, 43, rfl⟩
abbrev main_cst_2 : Ref sig .tc := ⟨.hbm, 44, rfl⟩
abbrev main_call1_v0 : Ref sig .tc := ⟨.hbm, 45, rfl⟩
abbrev main_call1_v1 : Ref sig .tc := ⟨.hbm, 46, rfl⟩
abbrev main_call1_v2 : Ref sig .tc := ⟨.hbm, 47, rfl⟩
abbrev main_v23 : Ref sig .tc := ⟨.hbm, 48, rfl⟩
abbrev main_cst_3 : Ref sig .tc := ⟨.hbm, 49, rfl⟩
abbrev main_v24 : Ref sig .tc := ⟨.hbm, 50, rfl⟩
abbrev main_cst_4 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_cst_5 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_values : Ref sig .tc := ⟨.hbm, 74, rfl⟩
abbrev main_indices : Ref sig .tc := ⟨.hbm, 75, rfl⟩
abbrev main_call2_c : Ref sig .tc := ⟨.hbm, 76, rfl⟩
abbrev main_call2_v0 : Ref sig .tc := ⟨.hbm, 77, rfl⟩
abbrev main_call2_v1 : Ref sig .tc := ⟨.hbm, 78, rfl⟩
abbrev main_call2_c_0 : Ref sig .tc := ⟨.hbm, 79, rfl⟩
abbrev main_call2_v2 : Ref sig .tc := ⟨.hbm, 80, rfl⟩
abbrev main_call2_v3 : Ref sig .tc := ⟨.hbm, 81, rfl⟩
abbrev main_call2_v4 : Ref sig .tc := ⟨.hbm, 82, rfl⟩
abbrev main_call2_v5 : Ref sig .tc := ⟨.hbm, 83, rfl⟩
abbrev main_call2_c_1 : Ref sig .tc := ⟨.hbm, 84, rfl⟩
abbrev main_call2_c_2 : Ref sig .tc := ⟨.hbm, 85, rfl⟩
abbrev main_call2_v6 : Ref sig .tc := ⟨.hbm, 86, rfl⟩
abbrev main_call2_v7 : Ref sig .tc := ⟨.hbm, 87, rfl⟩
abbrev main_call2_v8 : Ref sig .tc := ⟨.hbm, 88, rfl⟩
abbrev main_call2_v9 : Ref sig .tc := ⟨.hbm, 89, rfl⟩
abbrev main_call2_v10 : Ref sig .tc := ⟨.hbm, 90, rfl⟩
abbrev main_call2_v11 : Ref sig .tc := ⟨.hbm, 91, rfl⟩
abbrev main_call2_c_3 : Ref sig .tc := ⟨.hbm, 92, rfl⟩
abbrev main_call2_v12 : Ref sig .tc := ⟨.hbm, 93, rfl⟩
abbrev main_call2_v13 : Ref sig .tc := ⟨.hbm, 94, rfl⟩
abbrev main_call2_v14 : Ref sig .tc := ⟨.hbm, 95, rfl⟩
abbrev main_call2_cst : Ref sig .tc := ⟨.hbm, 96, rfl⟩
abbrev main_call2_v15 : Ref sig .tc := ⟨.hbm, 97, rfl⟩
abbrev main_v46 : Ref sig .tc := ⟨.hbm, 98, rfl⟩
abbrev main_v47 : Ref sig .tc := ⟨.hbm, 99, rfl⟩
abbrev main_call3_c : Ref sig .tc := ⟨.hbm, 100, rfl⟩
abbrev main_call3_v0 : Ref sig .tc := ⟨.hbm, 101, rfl⟩
abbrev main_call3_v1 : Ref sig .tc := ⟨.hbm, 102, rfl⟩
abbrev main_call3_c_0 : Ref sig .tc := ⟨.hbm, 103, rfl⟩
abbrev main_call3_v2 : Ref sig .tc := ⟨.hbm, 104, rfl⟩
abbrev main_call3_v3 : Ref sig .tc := ⟨.hbm, 105, rfl⟩
abbrev main_call3_v4 : Ref sig .tc := ⟨.hbm, 106, rfl⟩
abbrev main_call3_v5 : Ref sig .tc := ⟨.hbm, 107, rfl⟩
abbrev main_call3_c_1 : Ref sig .tc := ⟨.hbm, 108, rfl⟩
abbrev main_call3_c_2 : Ref sig .tc := ⟨.hbm, 109, rfl⟩
abbrev main_call3_v6 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_call3_v11 : Ref sig .tc := ⟨.hbm, 115, rfl⟩
abbrev main_call3_c_3 : Ref sig .tc := ⟨.hbm, 116, rfl⟩
abbrev main_call3_v12 : Ref sig .tc := ⟨.hbm, 117, rfl⟩
abbrev main_call3_v13 : Ref sig .tc := ⟨.hbm, 118, rfl⟩
abbrev main_call3_v14 : Ref sig .tc := ⟨.hbm, 119, rfl⟩
abbrev main_call3_cst : Ref sig .tc := ⟨.hbm, 120, rfl⟩
abbrev main_call3_v15 : Ref sig .tc := ⟨.hbm, 121, rfl⟩
abbrev main_v48 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_cst_6 : Ref sig .tc := ⟨.hbm, 130, rfl⟩
abbrev main_v56 : Ref sig .tc := ⟨.hbm, 131, rfl⟩
abbrev main_v57 : Ref sig .tc := ⟨.hbm, 132, rfl⟩
abbrev main_cst_7 : Ref sig .tc := ⟨.hbm, 133, rfl⟩
abbrev main_v58 : Ref sig .tc := ⟨.hbm, 134, rfl⟩
abbrev main_cst_8 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_cst_9 : Ref sig .tc := ⟨.hbm, 142, rfl⟩
abbrev main_v65 : Ref sig .tc := ⟨.hbm, 143, rfl⟩
abbrev main_v66 : Ref sig .tc := ⟨.hbm, 144, rfl⟩
abbrev main_v67 : Ref sig .tc := ⟨.hbm, 145, rfl⟩
abbrev main_v68 : Ref sig .tc := ⟨.hbm, 146, rfl⟩
abbrev main_v69 : Ref sig .tc := ⟨.hbm, 147, rfl⟩
abbrev main_v70 : Ref sig .tc := ⟨.hbm, 148, rfl⟩
abbrev main_v71 : Ref sig .tc := ⟨.hbm, 149, rfl⟩
abbrev main_v72 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_cst_10 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩

abbrev nD : Nat := 1
abbrev τ : Topo := Topo.v7x

variable {F : FTy → Type} [FloatOps F]
-- ==== Proof.Setup.lean ====
/- What the three kinds of grid point share: which of the body's three conditionals each point takes, where the
output's block is left alone, and the five scratch arrays. -/
module

public import proofs.«01_k».proof.Proof.Gen.KernelIdeal.Skeleton
public import proofs.«01_k».proof.Proof.Gen.KernelIdeal.Frame
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## Which conditionals a point takes -/

/-- The body's first conditional: the point is the first one. -/
abbrev first (i : grid0.Coords) : Prop := (Scalar.cmpi .ne (Scalar.extui (Scalar.cmpi .eq (BitVec.ofNat 32 (i 0).val) 0#32)) 0#32) = 1#1
/-- The body's second conditional: the point projects a block of rows. -/
abbrev projects (i : grid0.Coords) : Prop := k0_cond2 i = 1#1
/-- The body's third conditional: the point attends. -/
abbrev attends (i : grid0.Coords) : Prop := k0_cond3 i = 1#1

/-- The first conditional is taken at point 0. -/
theorem first_iff : ∀ t : Fin grid0.N, first (grid0.coords t) ↔ t.val = 0 := by decide +kernel
/-- The second conditional is taken at points 0 to 7. -/
theorem projects_iff : ∀ t : Fin grid0.N, projects (grid0.coords t) ↔ t.val < 8 := by decide +kernel
/-- The third conditional is taken at point 8. -/
theorem attends_iff : ∀ t : Fin grid0.N, attends (grid0.coords t) ↔ t.val = 8 := by decide +kernel

/-- The activations' block is in use at every point. -/
theorem live_x : ∀ t : Fin cfg0.N, cfg0.idle 0 (grid0.coords t) = false := fun _ => rfl
/-- The weights' block is in use at every point. -/
theorem live_w : ∀ t : Fin cfg0.N, cfg0.idle 1 (grid0.coords t) = false := fun _ => rfl
/-- A point that does not attend leaves the output's block alone. -/
theorem idle_o : ∀ t : Fin cfg0.N, t.val < 8 → cfg0.idle 2 (grid0.coords t) = true := by decide +kernel
/-- The output's block is not written back at such a point. -/
theorem kept_o : ∀ t : Fin cfg0.N, t.val < 8 → (cfg0.win 2).flush t = false := by decide +kernel
/-- The attending point fills the output's block. -/
theorem live_o : ∀ t : Fin cfg0.N, ¬t.val < 8 → cfg0.idle 2 (grid0.coords t) = false := by decide +kernel

/-! ## The memrefs the body is called with -/

/-- The activations' staging buffer at point `t`. -/
abbrev xM (t : Fin cfg0.N) : Memref sig .tc .vmem S1x256x1024 .f32 := win0_0.stage (cfg0.slots t 0)
/-- The weights' staging buffer. -/
abbrev wM (t : Fin cfg0.N) : Memref sig .tc .vmem S3x1025x64 .f32 := win0_1.stage (cfg0.slots t 1)
/-- The output's staging buffer. -/
abbrev oM (t : Fin cfg0.N) : Memref sig .tc .vmem S1x2048x64 .f32 := win0_2.stage (cfg0.slots t 2)
/-- The scratch array of packed weights. -/
abbrev sW : Memref sig .tc .vmem S1024x192 .bf16 := Memref.whole cc0_scratch0
/-- The scratch array of packed biases. -/
abbrev sB : Memref sig .tc .vmem S1x192 .f32 := Memref.whole cc0_scratch1
/-- The scratch array of queries. -/
abbrev sQ : Memref sig .tc .vmem S2048x64 .bf16 := Memref.whole cc0_scratch2
/-- The scratch array of keys, transposed. -/
abbrev sK : Memref sig .tc .vmem S64x2048 .bf16 := Memref.whole cc0_scratch3
/-- The scratch array of values, each row followed by a one and zeros. -/
abbrev sV : Memref sig .tc .vmem S2048x128 .bf16 := Memref.whole cc0_scratch4

/-- The scoped buffers the region starts and ends with: the five scratch arrays at any contents, and the random register. -/
theorem scratch_eq (c : Dev nD) :
    (Pipeline.ΦA spec0 c : sProp 𝕄)
      = iprop(iprop((∃ d, owns (c : Thread nD τ) sW fullShare d) ∗ (∃ d, owns (c : Thread nD τ) sB fullShare d) ∗ (∃ d, owns (c : Thread nD τ) sQ fullShare d) ∗ (∃ d, owns (c : Thread nD τ) sK fullShare d) ∗ (∃ d, owns (c : Thread nD τ) sV fullShare d)) ∗ (∃ r, prngReg c r)) := by
  unfold Pipeline.ΦA; rw [scopedRest0_eq]; simp only [sW, sB, sQ, sK, sV, owns_whole]; try rfl

end Cert.KernelIdeal.Att

end
-- ==== Proof.RunFirst.lean ====
/- The first grid point: it packs the weights and biases and projects the first block of rows. -/
module

public import proofs.«01_k».proof.Proof.Setup

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- What the first point stores, as the pieces written into each scratch array (last first), with the proof that the body runs to them from any contents of the packed weights and biases and from given contents of the other arrays. -/
def runFirst (c : Dev nD) (i : grid0.Coords) (a1 : Memref sig .tc .vmem S1x256x1024 .f32) (h1 : a1.IsWhole) (a2 : Memref sig .tc .vmem S3x1025x64 .f32) (h2 : a2.IsWhole) (a3 : Memref sig .tc .vmem S1x2048x64 .f32) (h3 : a3.IsWhole) (a4 : Memref sig .tc .vmem S1024x192 .bf16) (h4 : a4.IsWhole) (a5 : Memref sig .tc .vmem S1x192 .f32) (h5 : a5.IsWhole) (a6 : Memref sig .tc .vmem S2048x64 .bf16) (h6 : a6.IsWhole) (a7 : Memref sig .tc .vmem S64x2048 .bf16) (h7 : a7.IsWhole) (a8 : Memref sig .tc .vmem S2048x128 .bf16) (h8 : a8.IsWhole) (hc0 : first i) (hc1 : projects i) (hc2 : ¬attends i)
    (x : Vec F S1x256x1024 .f32) (w : Vec F S3x1025x64 .f32) :
    Σ' (L4 : List (View.Piece (Elt F) S1024x192 .bf16)), Σ' (L5 : List (View.Piece (Elt F) S1x192 .f32)), Σ' (L6 : List (View.Piece (Elt F) S2048x64 .bf16)), Σ' (L7 : List (View.Piece (Elt F) S64x2048 .bf16)), { L8 : List (View.Piece (Elt F) S2048x128 .bf16) //
      ∀ (o : Vec F S1x2048x64 .f32) (q : Vec F S2048x64 .bf16) (k : Vec F S64x2048 .bf16) (v : Vec F S2048x128 .bf16) (E : Set ℕ) (K : PUnit → sProp 𝕄),
        iprop(owns (c : Thread nD τ) a1 fullShare x ∗ owns (c : Thread nD τ) a2 fullShare w ∗ owns (c : Thread nD τ) a3 fullShare o ∗ (∃ d, owns (c : Thread nD τ) a4 fullShare d) ∗ (∃ d, owns (c : Thread nD τ) a5 fullShare d) ∗ owns (c : Thread nD τ) a6 fullShare q ∗ owns (c : Thread nD τ) a7 fullShare k ∗ owns (c : Thread nD τ) a8 fullShare v
            ∗ (iprop(owns (c : Thread nD τ) a1 fullShare x ∗ owns (c : Thread nD τ) a2 fullShare w ∗ owns (c : Thread nD τ) a3 fullShare o ∗ (∃ f, a4.view.loc (c : Thread nD τ) ↦[a4.view.set]{fullShare} a4.view.writes (Elt F) f L4) ∗ (∃ f, a5.view.loc (c : Thread nD τ) ↦[a5.view.set]{fullShare} a5.view.writes (Elt F) f L5) ∗ (a6.view.loc (c : Thread nD τ) ↦[a6.view.set]{fullShare} a6.view.writes (Elt F) (h6.unread q) L6) ∗ (a7.view.loc (c : Thread nD τ) ↦[a7.view.set]{fullShare} a7.view.writes (Elt F) (h7.unread k) L7) ∗ (a8.view.loc (c : Thread nD τ) ↦[a8.view.set]{fullShare} a8.view.writes (Elt F) (h8.unread v) L8)) -∗ K ⟨⟩))
          ⊢ wp frame (wpE (defs₀ (F := F)) Variants.none c none) E (cc0__attn_kernel i a1 h1 a2 h2 a3 h3 a4 h4 a5 h5 a6 h6 a7 h7 a8 h8) K } := by
  refine ⟨?_, ?_, ?_, ?_, ?_, fun o q k v E K => ?run⟩
  case run =>
    simp only [cc0__attn_kernel_eq_skeleton]; unfold cc0__attn_kernel_skel
    simp only [k0_part1_eq_skeleton]
    unfold owns
    iintro ⟨⟨%f1, %e1, H1⟩, ⟨%f2, %e2, H2⟩, ⟨%f3, %e3, H3⟩, ⟨%d4, %f4, -, H4⟩, ⟨%d5, %f5, -, H5⟩, ⟨%f6, %e6, H6⟩, ⟨%f7, %e7, H7⟩, ⟨%f8, %e8, H8⟩, Hk⟩
    obtain rfl := h1.eq_unread e1; obtain rfl := h2.eq_unread e2; obtain rfl := h3.eq_unread e3; obtain rfl := h6.eq_unread e6; obtain rfl := h7.eq_unread e7; obtain rfl := h8.eq_unread e8
    sl_exec (disch := first | sl_exact hc0 | sl_exact hc1 | sl_exact hc2)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]; · iexists _; iexact H4
    isplitl [H5]; · iexists _; iexact H5
    isplitl [H6]; · iexact H6
    isplitl [H7]; · iexact H7
    iexact H8

end Cert.KernelIdeal.Att

end
-- ==== Proof.RunProject.lean ====
/- A grid point after the first that projects a block of rows. -/
module

public import proofs.«01_k».proof.Proof.RunFirst

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- What a later projecting point stores into the query, key and value scratch arrays, as pieces (last first), with the proof that the body runs to them from given contents of every array, the packed weights and biases kept. -/
def runProject (c : Dev nD) (i : grid0.Coords) (a1 : Memref sig .tc .vmem S1x256x1024 .f32) (h1 : a1.IsWhole) (a2 : Memref sig .tc .vmem S3x1025x64 .f32) (h2 : a2.IsWhole) (a3 : Memref sig .tc .vmem S1x2048x64 .f32) (h3 : a3.IsWhole) (a4 : Memref sig .tc .vmem S1024x192 .bf16) (h4 : a4.IsWhole) (a5 : Memref sig .tc .vmem S1x192 .f32) (h5 : a5.IsWhole) (a6 : Memref sig .tc .vmem S2048x64 .bf16) (h6 : a6.IsWhole) (a7 : Memref sig .tc .vmem S64x2048 .bf16) (h7 : a7.IsWhole) (a8 : Memref sig .tc .vmem S2048x128 .bf16) (h8 : a8.IsWhole) (hc0 : ¬first i) (hc1 : projects i) (hc2 : ¬attends i)
    (x : Vec F S1x256x1024 .f32) (w : Vec F S3x1025x64 .f32) (pw : Vec F S1024x192 .bf16) (pb : Vec F S1x192 .f32) :
    Σ' (L6 : List (View.Piece (Elt F) S2048x64 .bf16)), Σ' (L7 : List (View.Piece (Elt F) S64x2048 .bf16)), { L8 : List (View.Piece (Elt F) S2048x128 .bf16) //
      ∀ (o : Vec F S1x2048x64 .f32) (q : Vec F S2048x64 .bf16) (k : Vec F S64x2048 .bf16) (v : Vec F S2048x128 .bf16) (E : Set ℕ) (K : PUnit → sProp 𝕄),
        iprop(owns (c : Thread nD τ) a1 fullShare x ∗ owns (c : Thread nD τ) a2 fullShare w ∗ owns (c : Thread nD τ) a3 fullShare o ∗ owns (c : Thread nD τ) a4 fullShare pw ∗ owns (c : Thread nD τ) a5 fullShare pb ∗ owns (c : Thread nD τ) a6 fullShare q ∗ owns (c : Thread nD τ) a7 fullShare k ∗ owns (c : Thread nD τ) a8 fullShare v
            ∗ (iprop(owns (c : Thread nD τ) a1 fullShare x ∗ owns (c : Thread nD τ) a2 fullShare w ∗ owns (c : Thread nD τ) a3 fullShare o ∗ owns (c : Thread nD τ) a4 fullShare pw ∗ owns (c : Thread nD τ) a5 fullShare pb ∗ (a6.view.loc (c : Thread nD τ) ↦[a6.view.set]{fullShare} a6.view.writes (Elt F) (h6.unread q) L6) ∗ (a7.view.loc (c : Thread nD τ) ↦[a7.view.set]{fullShare} a7.view.writes (Elt F) (h7.unread k) L7) ∗ (a8.view.loc (c : Thread nD τ) ↦[a8.view.set]{fullShare} a8.view.writes (Elt F) (h8.unread v) L8)) -∗ K ⟨⟩))
          ⊢ wp frame (wpE (defs₀ (F := F)) Variants.none c none) E (cc0__attn_kernel i a1 h1 a2 h2 a3 h3 a4 h4 a5 h5 a6 h6 a7 h7 a8 h8) K } := by
  refine ⟨?_, ?_, ?_, fun o q k v E K => ?run⟩
  case run =>
    simp only [cc0__attn_kernel_eq_skeleton]; unfold cc0__attn_kernel_skel
    unfold owns
    iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, Hk⟩
    obtain rfl := h1.eq_unread e1; obtain rfl := h2.eq_unread e2; obtain rfl := h3.eq_unread e3; obtain rfl := h4.eq_unread e4; obtain rfl := h5.eq_unread e5; obtain rfl := h6.eq_unread e6; obtain rfl := h7.eq_unread e7; obtain rfl := h8.eq_unread e8
    sl_exec (disch := first | sl_exact hc0 | sl_exact hc1 | sl_exact hc2)
    sl_step
    iapply Hk
    isplitl [H1]
    · iexists _; isplitr; · ipureintro; exact h1.read_unread _
      iexact H1
    isplitl [H2]
    · iexists _; isplitr; · ipureintro; exact h2.read_unread _
      iexact H2
    isplitl [H3]
    · iexists _; isplitr; · ipureintro; exact h3.read_unread _
      iexact H3
    isplitl [H4]
    · iexists _; isplitr; · ipureintro; exact h4.read_unread _
      iexact H4
    isplitl [H5]
    · iexists _; isplitr; · ipureintro; exact h5.read_unread _
      iexact H5
    isplitl [H6]; · iexact H6
    isplitl [H7]; · iexact H7
    iexact H8

end Cert.KernelIdeal.Att

end
-- ==== Proof.RunAttend.lean ====
/- The last grid point: it attends, block of rows by block of rows. -/
module

public import proofs.«01_k».proof.Proof.RunProject

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2400000 in
/-- What the last point stores into the output's block, as pieces (last first), with the proof that the body runs to them from given contents of every scratch array, all of them kept. -/
def runAttend (c : Dev nD) (i : grid0.Coords) (a1 : Memref sig .tc .vmem S1x256x1024 .f32) (h1 : a1.IsWhole) (a2 : Memref sig .tc .vmem S3x1025x64 .f32) (h2 : a2.IsWhole) (a3 : Memref sig .tc .vmem S1x2048x64 .f32) (h3 : a3.IsWhole) (a4 : Memref sig .tc .vmem S1024x192 .bf16) (h4 : a4.IsWhole) (a5 : Memref sig .tc .vmem S1x192 .f32) (h5 : a5.IsWhole) (a6 : Memref sig .tc .vmem S2048x64 .bf16) (h6 : a6.IsWhole) (a7 : Memref sig .tc .vmem S64x2048 .bf16) (h7 : a7.IsWhole) (a8 : Memref sig .tc .vmem S2048x128 .bf16) (h8 : a8.IsWhole) (hc0 : ¬first i) (hc1 : ¬projects i) (hc2 : attends i)
    (x : Vec F S1x256x1024 .f32) (w : Vec F S3x1025x64 .f32) (pw : Vec F S1024x192 .bf16) (pb : Vec F S1x192 .f32) (q : Vec F S2048x64 .bf16) (k : Vec F S64x2048 .bf16) (v : Vec F S2048x128 .bf16) :
    { L3 : List (View.Piece (Elt F) S1x2048x64 .f32) //
      ∀ (E : Set ℕ) (K : PUnit → sProp 𝕄),
        iprop(owns (c : Thread nD τ) a1 fullShare x ∗ owns (c : Thread nD τ) a2 fullShare w ∗ (∃ d, owns (c : Thread nD τ) a3 fullShare d) ∗ owns (c : Thread nD τ) a4 fullShare pw ∗ owns (c : Thread nD τ) a5 fullShare pb ∗ owns (c : Thread nD τ) a6 fullShare q ∗ owns (c : Thread nD τ) a7 fullShare k ∗ owns (c : Thread nD τ) a8 fullShare v
            ∗ (iprop(owns (c : Thread nD τ) a1 fullShare x ∗ owns (c : Thread nD τ) a2 fullShare w ∗ (∃ f, a3.view.loc (c : Thread nD τ) ↦[a3.view.set]{fullShare} a3.view.writes (Elt F) f L3) ∗ owns (c : Thread nD τ) a4 fullShare pw ∗ owns (c : Thread nD τ) a5 fullShare pb ∗ owns (c : Thread nD τ) a6 fullShare q ∗ owns (c : Thread nD τ) a7 fullShare k ∗ owns (c : Thread nD τ) a8 fullShare v) -∗ K ⟨⟩))
          ⊢ wp frame (wpE (defs₀ (F := F)) Variants.none c none) E (cc0__attn_kernel i a1 h1 a2 h2 a3 h3 a4 h4 a5 h5 a6 h6 a7 h7 a8 h8) K } := by
  refine ⟨?_, fun E K => ?run⟩
  case run =>
    simp only [cc0__attn_kernel_eq_skeleton]; unfold cc0__attn_kernel_skel
    simp only [k0_part2_eq_skeleton, k0_part3_eq_skeleton, k0_part4_eq_skeleton, k0_part5_eq_skeleton]
    unfold owns
    iintro ⟨⟨%f1, %e1, H1⟩, ⟨%f2, %e2, H2⟩, ⟨%d3, %f3, -, H3⟩, ⟨%f4, %e4, H4⟩, ⟨%f5, %e5, H5⟩, ⟨%f6, %e6, H6⟩, ⟨%f7, %e7, H7⟩, ⟨%f8, %e8, H8⟩, Hk⟩
    obtain rfl := h1.eq_unread e1; obtain rfl := h2.eq_unread e2; obtain rfl := h4.eq_unread e4; obtain rfl := h5.eq_unread e5; obtain rfl := h6.eq_unread e6; obtain rfl := h7.eq_unread e7; obtain rfl := h8.eq_unread e8
    sl_exec (disch := first | sl_exact hc0 | sl_exact hc1 | sl_exact hc2)
    sl_step
    iapply Hk
    isplitl [H1]
    · iexists _; isplitr; · ipureintro; exact h1.read_unread _
      iexact H1
    isplitl [H2]
    · iexists _; isplitr; · ipureintro; exact h2.read_unread _
      iexact H2
    isplitl [H3]; · iexists _; iexact H3
    isplitl [H4]
    · iexists _; isplitr; · ipureintro; exact h4.read_unread _
      iexact H4
    isplitl [H5]
    · iexists _; isplitr; · ipureintro; exact h5.read_unread _
      iexact H5
    isplitl [H6]
    · iexists _; isplitr; · ipureintro; exact h6.read_unread _
      iexact H6
    isplitl [H7]
    · iexists _; isplitr; · ipureintro; exact h7.read_unread _
      iexact H7
    iexists _; isplitr; · ipureintro; exact h8.read_unread _
    iexact H8

end Cert.KernelIdeal.Att

end
-- ==== Proof.Contents.lean ====
/- What the body's stores leave in the scratch arrays and in the output's block, as functions of what it loads. -/
module

public import proofs.«01_k».proof.Proof.RunProject
public import proofs.«01_k».proof.Proof.RunAttend
public import Idealize.ShloMosaic.Lib.WritesUnit
public import Idealize.ShloMosaic.Lib.WholeRead
public import Idealize.ShloMosaic.Lib.VecWindow

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of a whole memref's exact contents reads those contents through the load's rectangle. -/
theorem load_unread {sp : Space} {s : Shape} {e : EltTy} {a : Memref sig .tc sp s e} (h : a.IsWhole) (X : s.Idx → Elt F e) (r : Rect s) :
    View.readAt (Elt F) a.view r.toLoadRect (h.unread X) = View.ld X r :=
  funext fun y => h.readAt_unread X r.toLoadRect y

/-- A load of a whole rectangle of a whole memref's exact contents reads those contents. -/
theorem load_whole {sp : Space} {s : Shape} {e : EltTy} {a : Memref sig .tc sp s e} (h : a.IsWhole) (X : s.Idx → Elt F e) {off : Fin s.rank → ℕ} (inb : ∀ d, off d + s.size d ≤ s.size d) :
    View.readAt (Elt F) a.view (Rect.unit off s.size inb).toLoadRect (h.unread X) = X := by
  rw [View.readAt_full, h.read_unread]

/-- The three pieces stored into the packed weights, last first. -/
def piecesW (w : Vec F S3x1025x64 .f32) : List (View.Piece (Elt F) S1024x192 .bf16) :=
  [⟨Rect.unit ![0, 128] S1024x64.size inb_S1024x192_S1024x64_0_128, k0_pay11 (View.ld w (Rect.unit ![2, 0, 0] S1x1024x64.size inb_S3x1025x64_S1x1024x64_2_0_0))⟩,
    ⟨Rect.unit ![0, 64] S1024x64.size inb_S1024x192_S1024x64_0_64, k0_pay10 (View.ld w (Rect.unit ![1, 0, 0] S1x1024x64.size inb_S3x1025x64_S1x1024x64_1_0_0))⟩,
    ⟨Rect.unit ![0, 0] S1024x64.size inb_S1024x192_S1024x64_0_0, k0_pay9 (View.ld w (Rect.unit ![0, 0, 0] S1x1024x64.size inb_S3x1025x64_S1x1024x64_0_0_0))⟩]

/-- The three pieces stored into the packed biases, last first. -/
def piecesB (w : Vec F S3x1025x64 .f32) : List (View.Piece (Elt F) S1x192 .f32) :=
  [⟨Rect.unit ![0, 128] ![1, 64] inb_S1x192_S1x64_0_128, k0_pay2 (View.ld w (Rect.unit ![2, 1024, 0] ![1, 1, 64] inb_S3x1025x64_S1x1x64_2_1024_0))⟩,
    ⟨Rect.unit ![0, 64] ![1, 64] inb_S1x192_S1x64_0_64, k0_pay1 (k0_pay13 (View.ld w (Rect.unit ![1, 1024, 0] S1x1x64.size inb_S3x1025x64_S1x1x64_1_1024_0)))⟩,
    ⟨Rect.unit ![0, 0] S1x64.size inb_S1x192_S1x64_0_0, k0_pay12 (View.ld w (Rect.unit ![0, 1024, 0] S1x1x64.size inb_S3x1025x64_S1x1x64_0_1024_0))⟩]

/-- The packed weights: the three blocks of 64 columns. -/
def packW (w : Vec F S3x1025x64 .f32) : Vec F S1024x192 .bf16 := View.canon (piecesW w)
/-- The packed biases: the three blocks of 64 columns. -/
def packB (w : Vec F S3x1025x64 .f32) : Vec F S1x192 .f32 := View.canon (piecesB w)

/-- The pieces fill the packed weights. -/
theorem cover_W (w : Vec F S3x1025x64 .f32) (y : S1024x192.Idx) : ∃ p ∈ piecesW w, y ∈ p.1.set :=
  View.cover_of_tiledL (piecesW w) S1024x64.size (by sl_kernel_rfl) y
/-- The pieces fill the packed biases. -/
theorem cover_B (w : Vec F S3x1025x64 .f32) (y : S1x192.Idx) : ∃ p ∈ piecesB w, y ∈ p.1.set :=
  View.cover_of_tiledL (piecesB w) S1x64.size (by sl_kernel_rfl) y

section First

variable (c : Dev nD) (i : grid0.Coords) (a1 : Memref sig .tc .vmem S1x256x1024 .f32) (h1 : a1.IsWhole) (a2 : Memref sig .tc .vmem S3x1025x64 .f32) (h2 : a2.IsWhole) (a3 : Memref sig .tc .vmem S1x2048x64 .f32) (h3 : a3.IsWhole) (a4 : Memref sig .tc .vmem S1024x192 .bf16) (h4 : a4.IsWhole) (a5 : Memref sig .tc .vmem S1x192 .f32) (h5 : a5.IsWhole) (a6 : Memref sig .tc .vmem S2048x64 .bf16) (h6 : a6.IsWhole) (a7 : Memref sig .tc .vmem S64x2048 .bf16) (h7 : a7.IsWhole) (a8 : Memref sig .tc .vmem S2048x128 .bf16) (h8 : a8.IsWhole)
    (hc0 : first i) (hc1 : projects i) (hc2 : ¬attends i) (x : Vec F S1x256x1024 .f32) (w : Vec F S3x1025x64 .f32)

/-- The first point stores the packed weights. -/
theorem first_W : (runFirst c i a1 h1 a2 h2 a3 h3 a4 h4 a5 h5 a6 h6 a7 h7 a8 h8 hc0 hc1 hc2 x w).1 = piecesW w := by
  unfold runFirst; dsimp only; unfold runFirst.sl.H4_3 piecesW
  simp only [load_unread]

/-- The first point stores the packed biases. -/
theorem first_B : (runFirst c i a1 h1 a2 h2 a3 h3 a4 h4 a5 h5 a6 h6 a7 h7 a8 h8 hc0 hc1 hc2 x w).2.1 = piecesB w := by
  unfold runFirst; dsimp only; unfold runFirst.sl.H5_3 runFirst.sl.r piecesB
  simp only [load_unread]

/-- The first point reads the packed weights back. -/
theorem first_readW : runFirst.sl.v13 c a2 h2 a4 w = packW w := by
  unfold runFirst.sl.v13
  rw [View.readCov_eq_canon']
  unfold packW piecesW runFirst.sl.H4_3
  simp only [load_unread]
  exact View.ld_unit_zero (Val := Elt F) (by decide) inb_S1024x192_S1024x192_0_0 _

/-- The first point reads the packed biases back. -/
theorem first_readB : runFirst.sl.v15 c a2 h2 a5 w = packB w := by
  unfold runFirst.sl.v15
  rw [View.readCov_eq_canon']
  unfold packB piecesB runFirst.sl.H5_3 runFirst.sl.r
  simp only [load_unread]
  exact View.ld_unit_zero (Val := Elt F) (by decide) inb_S1x192_S1x192_0_0 _

/-- The first point's piece of the queries. -/
theorem first_Q : (runFirst c i a1 h1 a2 h2 a3 h3 a4 h4 a5 h5 a6 h6 a7 h7 a8 h8 hc0 hc1 hc2 x w).2.2.1
    = [⟨Rect.unit (k0_off1 i) S256x64.size (k0_off1_inb i hc1), k0_pay4 x (packW w) (packB w)⟩] := by
  unfold runFirst; dsimp only
  rw [first_readW, first_readB, load_whole]

/-- The first point's piece of the keys. -/
theorem first_K : (runFirst c i a1 h1 a2 h2 a3 h3 a4 h4 a5 h5 a6 h6 a7 h7 a8 h8 hc0 hc1 hc2 x w).2.2.2.1
    = [⟨Rect.unit (k0_off2 i) S64x256.size (k0_off2_inb i hc1), k0_pay5 x (packW w) (packB w)⟩] := by
  unfold runFirst; dsimp only
  rw [first_readW, first_readB, load_whole]

/-- The first point's piece of the values. -/
theorem first_V : (runFirst c i a1 h1 a2 h2 a3 h3 a4 h4 a5 h5 a6 h6 a7 h7 a8 h8 hc0 hc1 hc2 x w).2.2.2.2.1
    = [⟨Rect.unit (k0_off3 i) S256x128.size (k0_off3_inb i hc1), k0_pay6 x (packW w) (packB w)⟩] := by
  unfold runFirst; dsimp only
  rw [first_readW, first_readB, load_whole]

end First

section Project

variable (c : Dev nD) (i : grid0.Coords) (a1 : Memref sig .tc .vmem S1x256x1024 .f32) (h1 : a1.IsWhole) (a2 : Memref sig .tc .vmem S3x1025x64 .f32) (h2 : a2.IsWhole) (a3 : Memref sig .tc .vmem S1x2048x64 .f32) (h3 : a3.IsWhole) (a4 : Memref sig .tc .vmem S1024x192 .bf16) (h4 : a4.IsWhole) (a5 : Memref sig .tc .vmem S1x192 .f32) (h5 : a5.IsWhole) (a6 : Memref sig .tc .vmem S2048x64 .bf16) (h6 : a6.IsWhole) (a7 : Memref sig .tc .vmem S64x2048 .bf16) (h7 : a7.IsWhole) (a8 : Memref sig .tc .vmem S2048x128 .bf16) (h8 : a8.IsWhole)
    (hc0 : ¬first i) (hc1 : projects i) (hc2 : ¬attends i) (x : Vec F S1x256x1024 .f32) (w : Vec F S3x1025x64 .f32) (pw : Vec F S1024x192 .bf16) (pb : Vec F S1x192 .f32)

/-- A later point's piece of the queries. -/
theorem project_Q : (runProject c i a1 h1 a2 h2 a3 h3 a4 h4 a5 h5 a6 h6 a7 h7 a8 h8 hc0 hc1 hc2 x w pw pb).1
    = [⟨Rect.unit (k0_off1 i) S256x64.size (k0_off1_inb i hc1), k0_pay4 x pw pb⟩] := by
  unfold runProject; dsimp only
  rw [load_whole, load_whole, load_whole]

/-- A later point's piece of the keys. -/
theorem project_K : (runProject c i a1 h1 a2 h2 a3 h3 a4 h4 a5 h5 a6 h6 a7 h7 a8 h8 hc0 hc1 hc2 x w pw pb).2.1
    = [⟨Rect.unit (k0_off2 i) S64x256.size (k0_off2_inb i hc1), k0_pay5 x pw pb⟩] := by
  unfold runProject; dsimp only
  rw [load_whole, load_whole, load_whole]

/-- A later point's piece of the values. -/
theorem project_V : (runProject c i a1 h1 a2 h2 a3 h3 a4 h4 a5 h5 a6 h6 a7 h7 a8 h8 hc0 hc1 hc2 x w pw pb).2.2.1
    = [⟨Rect.unit (k0_off3 i) S256x128.size (k0_off3_inb i hc1), k0_pay6 x pw pb⟩] := by
  unfold runProject; dsimp only
  rw [load_whole, load_whole, load_whole]

end Project

/-- A point's rows of the queries start at 256 times its number. -/
theorem off_Q : ∀ t : Fin grid0.N, t.val < 8 → k0_off1 (grid0.coords t) = ![256 * t.val, 0] := by decide +kernel
/-- A point's columns of the keys start at 256 times its number. -/
theorem off_K : ∀ t : Fin grid0.N, t.val < 8 → k0_off2 (grid0.coords t) = ![0, 256 * t.val] := by decide +kernel
/-- A point's rows of the values start at 256 times its number. -/
theorem off_V : ∀ t : Fin grid0.N, t.val < 8 → k0_off3 (grid0.coords t) = ![256 * t.val, 0] := by decide +kernel

/-! ## The output's block, row block by row block -/

/-- Row block 0 of the output, from its queries and the first 256 keys and values. -/
def rows0 (q : Vec F S256x64 .bf16) (k : Vec F S64x256 .bf16) (v : Vec F S256x128 .bf16) : Vec F S1x256x64 .f32 :=
  k0_pay15 q k v

/-- Row block 1 of the output, from its queries and the first 512 keys and values. -/
def rows1 (q : Vec F S256x64 .bf16) (k : Vec F S64x512 .bf16) (v : Vec F S512x128 .bf16) : Vec F S1x256x64 .f32 :=
  k0_pay19 (k0_pay17 q k v) (k0_pay18 q k v) (Scalar.ofBits .f32 0x3F800000#32)

/-- Row block 2 of the output, from its queries and the first 768 keys and values. -/
def rows2 (q : Vec F S256x64 .bf16) (k : Vec F S64x768 .bf16) (v : Vec F S768x128 .bf16) : Vec F S1x256x64 .f32 :=
  k0_pay20 k0_pay14 q k v

/-- Row block 3 of the output, from its queries and the first 1024 keys and values. -/
def rows3 (q : Vec F S256x64 .bf16) (k : Vec F S64x1024 .bf16) (v : Vec F S1024x128 .bf16) : Vec F S1x256x64 .f32 :=
  k0_pay24 k0_pay14 (k0_pay21 q k) (k0_pay22 q k) k0_pay23 v

/-- Row block 4 of the output, from its queries and the first 1280 keys and values. -/
def rows4 (q : Vec F S256x64 .bf16) (k : Vec F S64x1280 .bf16) (v : Vec F S1280x128 .bf16) : Vec F S1x256x64 .f32 :=
  k0_pay25 k0_pay14 q k v

/-- Row block 5 of the output, from its queries and the first 1536 keys and values. -/
def rows5 (q : Vec F S256x64 .bf16) (k : Vec F S64x1536 .bf16) (v : Vec F S1536x128 .bf16) : Vec F S1x256x64 .f32 :=
  k0_pay26 k0_pay14 q k v

/-- Row block 6 of the output, from its queries and the first 1792 keys and values. -/
def rows6 (q : Vec F S256x64 .bf16) (k : Vec F S64x1792 .bf16) (v : Vec F S1792x128 .bf16) : Vec F S1x256x64 .f32 :=
  k0_pay7 (k0_pay28 k0_pay14 q k v) (k0_pay29 k0_pay14 q k v) (Scalar.ofBits .f32 0x3F800000#32)

/-- Row block 7 of the output, from its queries and the first 2048 keys and values. -/
def rows7 (q : Vec F S256x64 .bf16) (k : Vec F S64x2048 .bf16) (v : Vec F S2048x128 .bf16) : Vec F S1x256x64 .f32 :=
  k0_pay8 k0_pay14 q k v

/-- The eight pieces stored into the output's block, last first. -/
def piecesO (q : Vec F S2048x64 .bf16) (k : Vec F S64x2048 .bf16) (v : Vec F S2048x128 .bf16) : List (View.Piece (Elt F) S1x2048x64 .f32) :=
  [⟨Rect.unit ![0, 1792, 0] ![1, 256, 64] inb_S1x2048x64_S1x256x64_0_1792_0, rows7 (View.ld q (Rect.unit ![1792, 0] ![256, 64] inb_S2048x64_S256x64_1792_0)) (View.ld k (Rect.unit ![0, 0] ![64, 2048] inb_S64x2048_S64x2048_0_0)) (View.ld v (Rect.unit ![0, 0] ![2048, 128] inb_S2048x128_S2048x128_0_0))⟩,
    ⟨Rect.unit ![0, 1536, 0] ![1, 256, 64] inb_S1x2048x64_S1x256x64_0_1536_0, rows6 (View.ld q (Rect.unit ![1536, 0] ![256, 64] inb_S2048x64_S256x64_1536_0)) (View.ld k (Rect.unit ![0, 0] ![64, 1792] inb_S64x2048_S64x1792_0_0)) (View.ld v (Rect.unit ![0, 0] ![1792, 128] inb_S2048x128_S1792x128_0_0))⟩,
    ⟨Rect.unit ![0, 1280, 0] ![1, 256, 64] inb_S1x2048x64_S1x256x64_0_1280_0, rows5 (View.ld q (Rect.unit ![1280, 0] ![256, 64] inb_S2048x64_S256x64_1280_0)) (View.ld k (Rect.unit ![0, 0] ![64, 1536] inb_S64x2048_S64x1536_0_0)) (View.ld v (Rect.unit ![0, 0] ![1536, 128] inb_S2048x128_S1536x128_0_0))⟩,
    ⟨Rect.unit ![0, 1024, 0] ![1, 256, 64] inb_S1x2048x64_S1x256x64_0_1024_0, rows4 (View.ld q (Rect.unit ![1024, 0] ![256, 64] inb_S2048x64_S256x64_1024_0)) (View.ld k (Rect.unit ![0, 0] ![64, 1280] inb_S64x2048_S64x1280_0_0)) (View.ld v (Rect.unit ![0, 0] ![1280, 128] inb_S2048x128_S1280x128_0_0))⟩,
    ⟨Rect.unit ![0, 768, 0] ![1, 256, 64] inb_S1x2048x64_S1x256x64_0_768_0, rows3 (View.ld q (Rect.unit ![768, 0] ![256, 64] inb_S2048x64_S256x64_768_0)) (View.ld k (Rect.unit ![0, 0] ![64, 1024] inb_S64x2048_S64x1024_0_0)) (View.ld v (Rect.unit ![0, 0] ![1024, 128] inb_S2048x128_S1024x128_0_0))⟩,
    ⟨Rect.unit ![0, 512, 0] ![1, 256, 64] inb_S1x2048x64_S1x256x64_0_512_0, rows2 (View.ld q (Rect.unit ![512, 0] ![256, 64] inb_S2048x64_S256x64_512_0)) (View.ld k (Rect.unit ![0, 0] ![64, 768] inb_S64x2048_S64x768_0_0)) (View.ld v (Rect.unit ![0, 0] ![768, 128] inb_S2048x128_S768x128_0_0))⟩,
    ⟨Rect.unit ![0, 256, 0] ![1, 256, 64] inb_S1x2048x64_S1x256x64_0_256_0, rows1 (View.ld q (Rect.unit ![256, 0] ![256, 64] inb_S2048x64_S256x64_256_0)) (View.ld k (Rect.unit ![0, 0] ![64, 512] inb_S64x2048_S64x512_0_0)) (View.ld v (Rect.unit ![0, 0] ![512, 128] inb_S2048x128_S512x128_0_0))⟩,
    ⟨Rect.unit ![0, 0, 0] ![1, 256, 64] inb_S1x2048x64_S1x256x64_0_0_0, rows0 (View.ld q (Rect.unit ![0, 0] ![256, 64] inb_S2048x64_S256x64_0_0)) (View.ld k (Rect.unit ![0, 0] ![64, 256] inb_S64x2048_S64x256_0_0)) (View.ld v (Rect.unit ![0, 0] ![256, 128] inb_S2048x128_S256x128_0_0))⟩]

/-- The output's block. -/
def outO (q : Vec F S2048x64 .bf16) (k : Vec F S64x2048 .bf16) (v : Vec F S2048x128 .bf16) : Vec F S1x2048x64 .f32 := View.canon (piecesO q k v)

/-- The pieces fill the output's block. -/
theorem cover_O (q : Vec F S2048x64 .bf16) (k : Vec F S64x2048 .bf16) (v : Vec F S2048x128 .bf16) (y : S1x2048x64.Idx) : ∃ p ∈ piecesO q k v, y ∈ p.1.set :=
  View.cover_of_tiledL (piecesO q k v) S1x256x64.size (by sl_kernel_rfl) y

/-- The last point stores the output's block. -/
theorem attend_O (c : Dev nD) (i : grid0.Coords) (a1 : Memref sig .tc .vmem S1x256x1024 .f32) (h1 : a1.IsWhole) (a2 : Memref sig .tc .vmem S3x1025x64 .f32) (h2 : a2.IsWhole) (a3 : Memref sig .tc .vmem S1x2048x64 .f32) (h3 : a3.IsWhole) (a4 : Memref sig .tc .vmem S1024x192 .bf16) (h4 : a4.IsWhole) (a5 : Memref sig .tc .vmem S1x192 .f32) (h5 : a5.IsWhole) (a6 : Memref sig .tc .vmem S2048x64 .bf16) (h6 : a6.IsWhole) (a7 : Memref sig .tc .vmem S64x2048 .bf16) (h7 : a7.IsWhole) (a8 : Memref sig .tc .vmem S2048x128 .bf16) (h8 : a8.IsWhole) (hc0 : ¬first i) (hc1 : ¬projects i) (hc2 : attends i)
    (x : Vec F S1x256x1024 .f32) (w : Vec F S3x1025x64 .f32) (pw : Vec F S1024x192 .bf16) (pb : Vec F S1x192 .f32) (q : Vec F S2048x64 .bf16) (k : Vec F S64x2048 .bf16) (v : Vec F S2048x128 .bf16) :
    (runAttend c i a1 h1 a2 h2 a3 h3 a4 h4 a5 h5 a6 h6 a7 h7 a8 h8 hc0 hc1 hc2 x w pw pb q k v).1 = piecesO q k v := by
  unfold runAttend; dsimp only
  unfold runAttend.sl.r runAttend.sl.r_1 runAttend.sl.r_2 runAttend.sl.r_3 runAttend.sl.r_4 runAttend.sl.r_5 runAttend.sl.cst_23
  simp only [load_unread]
  unfold piecesO rows0 rows1 rows2 rows3 rows4 rows5 rows6 rows7
  rfl

/-! ## Reading the pieces at an index -/

/-- An index under the newest piece reads that piece's value. -/
theorem canon_mem {s : Shape} {e : EltTy} {off size : Fin s.rank → ℕ} (inb : ∀ a, off a + size a ≤ s.size a)
    (u : (Rect.unit off size inb).shape.Idx → Elt F e) (L : List (View.Piece (Elt F) s e)) (y : s.Idx)
    (x : (Rect.unit off size inb).shape.Idx) (hx : ∀ a, (y a).val = off a + (x a).val) :
    View.canon ((⟨Rect.unit off size inb, u⟩ : View.Piece (Elt F) s e) :: L) y = u x := by
  have hy : (Rect.unit off size inb).emb x = y := funext fun a => Fin.ext (by
    show off a + 1 * (x a).val = (y a).val
    rw [hx a, Nat.one_mul])
  rw [← hy]; exact View.canon_cons_emb _ _ _ _

/-- An index outside the newest piece reads what the rest left. -/
theorem canon_skip {s : Shape} {e : EltTy} {off size : Fin s.rank → ℕ} (inb : ∀ a, off a + size a ≤ s.size a)
    (u : (Rect.unit off size inb).shape.Idx → Elt F e) (L : List (View.Piece (Elt F) s e)) (y : s.Idx)
    (a : Fin s.rank) (ha : (y a).val < off a ∨ off a + size a ≤ (y a).val) :
    View.canon ((⟨Rect.unit off size inb, u⟩ : View.Piece (Elt F) s e) :: L) y = View.canon L y := by
  refine View.canon_cons_of_not_mem _ _ ?_
  rw [Rect.mem_set_unit]
  intro hall
  have := hall a
  omega

end Cert.KernelIdeal.Att

end
-- ==== Proof.Filled.lean ====
/- How far the scratch arrays of queries, keys and values are filled, and how one point fills them further. -/
module

public import proofs.«01_k».proof.Proof.Contents
public import Idealize.ShloMosaic.Lib.Pointwise

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- Row `r` of row block `b`. -/
abbrev row (b : Fin 8) (r : Fin 256) : Fin 2048 := ⟨256 * b.val + r.val, by omega⟩

/-- The first `n` row blocks of the queries, keys and values are those projected from the blocks `xs` of activations. -/
structure Filled (n : ℕ) (xs : Fin 8 → Vec F S1x256x1024 .f32) (pw : Vec F S1024x192 .bf16) (pb : Vec F S1x192 .f32)
    (q : Vec F S2048x64 .bf16) (k : Vec F S64x2048 .bf16) (v : Vec F S2048x128 .bf16) : Prop where
  q_eq : ∀ b : Fin 8, b.val < n → ∀ (r : Fin 256) (d : Fin 64), q (ix2 (row b r) d) = k0_pay4 (xs b) pw pb (ix2 r d)
  k_eq : ∀ b : Fin 8, b.val < n → ∀ (r : Fin 256) (d : Fin 64), k (ix2 d (row b r)) = k0_pay5 (xs b) pw pb (ix2 d r)
  v_eq : ∀ b : Fin 8, b.val < n → ∀ (r : Fin 256) (d : Fin 128), v (ix2 (row b r) d) = k0_pay6 (xs b) pw pb (ix2 r d)

/-- A store of row block `t` of an array of 2048 rows, read at an index. -/
theorem store_rows {D : ℕ} {e : EltTy} {a : Memref sig .tc .vmem ⟨2, ![2048, D]⟩ e} (h : a.IsWhole) (q : (⟨2, ![2048, D]⟩ : Shape).Idx → Elt F e)
    {n : ℕ} {off : Fin 2 → ℕ} (hoff : off = ![256 * n, 0]) (inb : ∀ d : Fin 2, off d + (![256, D] : Fin 2 → ℕ) d ≤ (⟨2, ![2048, D]⟩ : Shape).size d)
    (u : (⟨2, ![256, D]⟩ : Shape).Idx → Elt F e) (b : Fin 8) (r : Fin 256) (d : Fin D) :
    a.view.read (Elt F) (a.view.writes (Elt F) (h.unread q) [⟨Rect.unit (s := ⟨2, ![2048, D]⟩) off ![256, D] inb, u⟩]) (ix2 (row b r) d)
      = if b.val = n then u (ix2 r d) else q (ix2 (row b r) d) := by
  split
  · rename_i hb
    refine View.read_writes_cons_unit_of_mem a.view _ inb u [] (ix2 (row b r) d) (ix2 r d) hoff ?_
    intro x
    match x with
    | ⟨0, _⟩ => show 256 * b.val + r.val = 256 * n + r.val; rw [hb]
    | ⟨1, _⟩ => show d.val = 0 + d.val; omega
  · rename_i hb
    rw [View.read_writes_cons_unit_of_not_mem a.view _ inb u [] (ix2 (row b r) d) hoff (0 : Fin 2) (by
      show 256 * b.val + r.val < 256 * n ∨ 256 * n + 256 ≤ 256 * b.val + r.val
      have := r.isLt; omega)]
    exact congrFun (h.read_unread q) _

/-- A store of column block `t` of an array of 2048 columns, read at an index. -/
theorem store_cols {D : ℕ} {e : EltTy} {a : Memref sig .tc .vmem ⟨2, ![D, 2048]⟩ e} (h : a.IsWhole) (q : (⟨2, ![D, 2048]⟩ : Shape).Idx → Elt F e)
    {n : ℕ} {off : Fin 2 → ℕ} (hoff : off = ![0, 256 * n]) (inb : ∀ d : Fin 2, off d + (![D, 256] : Fin 2 → ℕ) d ≤ (⟨2, ![D, 2048]⟩ : Shape).size d)
    (u : (⟨2, ![D, 256]⟩ : Shape).Idx → Elt F e) (b : Fin 8) (r : Fin 256) (d : Fin D) :
    a.view.read (Elt F) (a.view.writes (Elt F) (h.unread q) [⟨Rect.unit (s := ⟨2, ![D, 2048]⟩) off ![D, 256] inb, u⟩]) (ix2 d (row b r))
      = if b.val = n then u (ix2 d r) else q (ix2 d (row b r)) := by
  split
  · rename_i hb
    refine View.read_writes_cons_unit_of_mem a.view _ inb u [] (ix2 d (row b r)) (ix2 d r) hoff ?_
    intro x
    match x with
    | ⟨0, _⟩ => show d.val = 0 + d.val; omega
    | ⟨1, _⟩ => show 256 * b.val + r.val = 256 * n + r.val; rw [hb]
  · rename_i hb
    rw [View.read_writes_cons_unit_of_not_mem a.view _ inb u [] (ix2 d (row b r)) hoff (1 : Fin 2) (by
      show 256 * b.val + r.val < 256 * n ∨ 256 * n + 256 ≤ 256 * b.val + r.val
      have := r.isLt; omega)]
    exact congrFun (h.read_unread q) _

section Step

variable (t : Fin grid0.N) (ht : t.val < 8) (a6 : Memref sig .tc .vmem S2048x64 .bf16) (h6 : a6.IsWhole) (a7 : Memref sig .tc .vmem S64x2048 .bf16) (h7 : a7.IsWhole) (a8 : Memref sig .tc .vmem S2048x128 .bf16) (h8 : a8.IsWhole)
  (xs : Fin 8 → Vec F S1x256x1024 .f32) (pw : Vec F S1024x192 .bf16) (pb : Vec F S1x192 .f32)
  (q : Vec F S2048x64 .bf16) (k : Vec F S64x2048 .bf16) (v : Vec F S2048x128 .bf16)

include ht in
/-- Point `t`, storing its blocks into arrays filled up to `t`, leaves them filled up to `t + 1`. -/
theorem filled_step (hc : projects (grid0.coords t)) (hf : Filled t.val xs pw pb q k v) :
    Filled (t.val + 1) xs pw pb
      (a6.view.read (Elt F) (a6.view.writes (Elt F) (h6.unread q) [⟨Rect.unit (k0_off1 (grid0.coords t)) S256x64.size (k0_off1_inb (grid0.coords t) hc), k0_pay4 (xs ⟨t.val, ht⟩) pw pb⟩]))
      (a7.view.read (Elt F) (a7.view.writes (Elt F) (h7.unread k) [⟨Rect.unit (k0_off2 (grid0.coords t)) S64x256.size (k0_off2_inb (grid0.coords t) hc), k0_pay5 (xs ⟨t.val, ht⟩) pw pb⟩]))
      (a8.view.read (Elt F) (a8.view.writes (Elt F) (h8.unread v) [⟨Rect.unit (k0_off3 (grid0.coords t)) S256x128.size (k0_off3_inb (grid0.coords t) hc), k0_pay6 (xs ⟨t.val, ht⟩) pw pb⟩])) := by
  refine ⟨fun b hb r d => ?_, fun b hb r d => ?_, fun b hb r d => ?_⟩
  · refine (store_rows h6 q (off_Q t ht) _ _ b r d).trans ?_
    split
    · rename_i hbt
      obtain rfl : b = ⟨t.val, ht⟩ := Fin.ext hbt
      rfl
    · exact hf.q_eq b (by omega) r d
  · refine (store_cols h7 k (off_K t ht) _ _ b r d).trans ?_
    split
    · rename_i hbt
      obtain rfl : b = ⟨t.val, ht⟩ := Fin.ext hbt
      rfl
    · exact hf.k_eq b (by omega) r d
  · refine (store_rows h8 v (off_V t ht) _ _ b r d).trans ?_
    split
    · rename_i hbt
      obtain rfl : b = ⟨t.val, ht⟩ := Fin.ext hbt
      rfl
    · exact hf.v_eq b (by omega) r d

end Step

/-- Nothing is asked of arrays filled up to 0. -/
theorem filled_zero (xs : Fin 8 → Vec F S1x256x1024 .f32) (pw : Vec F S1024x192 .bf16) (pb : Vec F S1x192 .f32)
    (q : Vec F S2048x64 .bf16) (k : Vec F S64x2048 .bf16) (v : Vec F S2048x128 .bf16) : Filled 0 xs pw pb q k v :=
  ⟨fun _ h => absurd h (Nat.not_lt_zero _), fun _ h => absurd h (Nat.not_lt_zero _), fun _ h => absurd h (Nat.not_lt_zero _)⟩

/-- The block a row is in. -/
abbrev blkOf (i : Fin 2048) : Fin 8 := ⟨i.val / 256, by omega⟩
/-- The row's place in its block. -/
abbrev rowIn (i : Fin 2048) : Fin 256 := ⟨i.val % 256, by omega⟩

/-- A row is the row at its place in its block. -/
theorem row_blk (i : Fin 2048) : row (blkOf i) (rowIn i) = i := Fin.ext (by show 256 * (i.val / 256) + i.val % 256 = i.val; omega)

/-- All the queries. -/
def allQ (xs : Fin 8 → Vec F S1x256x1024 .f32) (pw : Vec F S1024x192 .bf16) (pb : Vec F S1x192 .f32) : Vec F S2048x64 .bf16 :=
  fun y => k0_pay4 (xs (blkOf (y 0))) pw pb (ix2 (rowIn (y 0)) (y 1))
/-- All the keys, transposed. -/
def allK (xs : Fin 8 → Vec F S1x256x1024 .f32) (pw : Vec F S1024x192 .bf16) (pb : Vec F S1x192 .f32) : Vec F S64x2048 .bf16 :=
  fun y => k0_pay5 (xs (blkOf (y 1))) pw pb (ix2 (y 0) (rowIn (y 1)))
/-- All the values, each row followed by a one and zeros. -/
def allV (xs : Fin 8 → Vec F S1x256x1024 .f32) (pw : Vec F S1024x192 .bf16) (pb : Vec F S1x192 .f32) : Vec F S2048x128 .bf16 :=
  fun y => k0_pay6 (xs (blkOf (y 0))) pw pb (ix2 (rowIn (y 0)) (y 1))

/-- Arrays filled up to all 8 row blocks hold all the queries, keys and values. -/
theorem filled_all {n : ℕ} (hn : 8 ≤ n) {xs : Fin 8 → Vec F S1x256x1024 .f32} {pw : Vec F S1024x192 .bf16} {pb : Vec F S1x192 .f32}
    {q : Vec F S2048x64 .bf16} {k : Vec F S64x2048 .bf16} {v : Vec F S2048x128 .bf16} (hf : Filled n xs pw pb q k v) :
    q = allQ xs pw pb ∧ k = allK xs pw pb ∧ v = allV xs pw pb := by
  refine ⟨funext fun y => ?_, funext fun y => ?_, funext fun y => ?_⟩
  · have := hf.q_eq (blkOf (y 0)) (by have := (blkOf (y 0)).isLt; omega) (rowIn (y 0)) (y 1)
    have e : y = ix2 (row (blkOf (y 0)) (rowIn (y 0))) (y 1) := (eq_ix2 y).trans (congrArg (fun z => ix2 z (y 1)) (row_blk (y 0)).symm)
    exact (congrArg q e).trans this
  · have := hf.k_eq (blkOf (y 1)) (by have := (blkOf (y 1)).isLt; omega) (rowIn (y 1)) (y 0)
    have e : y = ix2 (y 0) (row (blkOf (y 1)) (rowIn (y 1))) := (eq_ix2 y).trans (congrArg (fun z => ix2 (y 0) z) (row_blk (y 1)).symm)
    exact (congrArg k e).trans this
  · have := hf.v_eq (blkOf (y 0)) (by have := (blkOf (y 0)).isLt; omega) (rowIn (y 0)) (y 1)
    have e : y = ix2 (row (blkOf (y 0)) (rowIn (y 0))) (y 1) := (eq_ix2 y).trans (congrArg (fun z => ix2 z (y 1)) (row_blk (y 0)).symm)
    exact (congrArg v e).trans this

/-- Arrays filled up to all the row blocks stay so. -/
theorem filled_stay {n n' : ℕ} (hn : 8 ≤ n) {xs : Fin 8 → Vec F S1x256x1024 .f32} {pw : Vec F S1024x192 .bf16} {pb : Vec F S1x192 .f32}
    {q : Vec F S2048x64 .bf16} {k : Vec F S64x2048 .bf16} {v : Vec F S2048x128 .bf16} (hf : Filled n xs pw pb q k v) :
    Filled n' xs pw pb q k v :=
  ⟨fun b _ => hf.q_eq b (by omega), fun b _ => hf.k_eq b (by omega), fun b _ => hf.v_eq b (by omega)⟩

end Cert.KernelIdeal.Att

end
-- ==== Proof.RunSpec.lean ====
/- The three kinds of grid point, run, with the stored pieces named. -/
module

public import proofs.«01_k».proof.Proof.Filled

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1600000 in
/-- The first point runs to the packed weights and biases and to the first block of queries, keys and values. -/
theorem first_runs (c : Dev nD) (i : grid0.Coords) (a1 : Memref sig .tc .vmem S1x256x1024 .f32) (h1 : a1.IsWhole) (a2 : Memref sig .tc .vmem S3x1025x64 .f32) (h2 : a2.IsWhole) (a3 : Memref sig .tc .vmem S1x2048x64 .f32) (h3 : a3.IsWhole) (a4 : Memref sig .tc .vmem S1024x192 .bf16) (h4 : a4.IsWhole) (a5 : Memref sig .tc .vmem S1x192 .f32) (h5 : a5.IsWhole) (a6 : Memref sig .tc .vmem S2048x64 .bf16) (h6 : a6.IsWhole) (a7 : Memref sig .tc .vmem S64x2048 .bf16) (h7 : a7.IsWhole) (a8 : Memref sig .tc .vmem S2048x128 .bf16) (h8 : a8.IsWhole) (hc0 : first i) (hc1 : projects i) (hc2 : ¬attends i)
    (x : Vec F S1x256x1024 .f32) (w : Vec F S3x1025x64 .f32) :
    ∀ (o : Vec F S1x2048x64 .f32) (q : Vec F S2048x64 .bf16) (k : Vec F S64x2048 .bf16) (v : Vec F S2048x128 .bf16) (E : Set ℕ) (K : PUnit → sProp 𝕄),
        iprop(owns (c : Thread nD τ) a1 fullShare x ∗ owns (c : Thread nD τ) a2 fullShare w ∗ owns (c : Thread nD τ) a3 fullShare o ∗ (∃ d, owns (c : Thread nD τ) a4 fullShare d) ∗ (∃ d, owns (c : Thread nD τ) a5 fullShare d) ∗ owns (c : Thread nD τ) a6 fullShare q ∗ owns (c : Thread nD τ) a7 fullShare k ∗ owns (c : Thread nD τ) a8 fullShare v
            ∗ (iprop(owns (c : Thread nD τ) a1 fullShare x ∗ owns (c : Thread nD τ) a2 fullShare w ∗ owns (c : Thread nD τ) a3 fullShare o ∗ (∃ f, a4.view.loc (c : Thread nD τ) ↦[a4.view.set]{fullShare} a4.view.writes (Elt F) f (piecesW w)) ∗ (∃ f, a5.view.loc (c : Thread nD τ) ↦[a5.view.set]{fullShare} a5.view.writes (Elt F) f (piecesB w)) ∗ (a6.view.loc (c : Thread nD τ) ↦[a6.view.set]{fullShare} a6.view.writes (Elt F) (h6.unread q) [⟨Rect.unit (k0_off1 i) S256x64.size (k0_off1_inb i hc1), k0_pay4 x (packW w) (packB w)⟩]) ∗ (a7.view.loc (c : Thread nD τ) ↦[a7.view.set]{fullShare} a7.view.writes (Elt F) (h7.unread k) [⟨Rect.unit (k0_off2 i) S64x256.size (k0_off2_inb i hc1), k0_pay5 x (packW w) (packB w)⟩]) ∗ (a8.view.loc (c : Thread nD τ) ↦[a8.view.set]{fullShare} a8.view.writes (Elt F) (h8.unread v) [⟨Rect.unit (k0_off3 i) S256x128.size (k0_off3_inb i hc1), k0_pay6 x (packW w) (packB w)⟩])) -∗ K ⟨⟩))
          ⊢ wp frame (wpE (defs₀ (F := F)) Variants.none c none) E (cc0__attn_kernel i a1 h1 a2 h2 a3 h3 a4 h4 a5 h5 a6 h6 a7 h7 a8 h8) K := by
  have e0 := first_W c i a1 h1 a2 h2 a3 h3 a4 h4 a5 h5 a6 h6 a7 h7 a8 h8 hc0 hc1 hc2 x w
  have e1 := first_B c i a1 h1 a2 h2 a3 h3 a4 h4 a5 h5 a6 h6 a7 h7 a8 h8 hc0 hc1 hc2 x w
  have e2 := first_Q c i a1 h1 a2 h2 a3 h3 a4 h4 a5 h5 a6 h6 a7 h7 a8 h8 hc0 hc1 hc2 x w
  have e3 := first_K c i a1 h1 a2 h2 a3 h3 a4 h4 a5 h5 a6 h6 a7 h7 a8 h8 hc0 hc1 hc2 x w
  have e4 := first_V c i a1 h1 a2 h2 a3 h3 a4 h4 a5 h5 a6 h6 a7 h7 a8 h8 hc0 hc1 hc2 x w
  generalize runFirst c i a1 h1 a2 h2 a3 h3 a4 h4 a5 h5 a6 h6 a7 h7 a8 h8 hc0 hc1 hc2 x w = R at e0 e1 e2 e3 e4
  obtain ⟨L4, L5, L6, L7, L8, h⟩ := R
  dsimp only at e0 e1 e2 e3 e4
  subst e0
  subst e1
  subst e2
  subst e3
  subst e4
  exact h

/-- A later projecting point runs to its block of queries, keys and values. -/
theorem project_runs (c : Dev nD) (i : grid0.Coords) (a1 : Memref sig .tc .vmem S1x256x1024 .f32) (h1 : a1.IsWhole) (a2 : Memref sig .tc .vmem S3x1025x64 .f32) (h2 : a2.IsWhole) (a3 : Memref sig .tc .vmem S1x2048x64 .f32) (h3 : a3.IsWhole) (a4 : Memref sig .tc .vmem S1024x192 .bf16) (h4 : a4.IsWhole) (a5 : Memref sig .tc .vmem S1x192 .f32) (h5 : a5.IsWhole) (a6 : Memref sig .tc .vmem S2048x64 .bf16) (h6 : a6.IsWhole) (a7 : Memref sig .tc .vmem S64x2048 .bf16) (h7 : a7.IsWhole) (a8 : Memref sig .tc .vmem S2048x128 .bf16) (h8 : a8.IsWhole) (hc0 : ¬first i) (hc1 : projects i) (hc2 : ¬attends i)
    (x : Vec F S1x256x1024 .f32) (w : Vec F S3x1025x64 .f32) (pw : Vec F S1024x192 .bf16) (pb : Vec F S1x192 .f32) :
    ∀ (o : Vec F S1x2048x64 .f32) (q : Vec F S2048x64 .bf16) (k : Vec F S64x2048 .bf16) (v : Vec F S2048x128 .bf16) (E : Set ℕ) (K : PUnit → sProp 𝕄),
        iprop(owns (c : Thread nD τ) a1 fullShare x ∗ owns (c : Thread nD τ) a2 fullShare w ∗ owns (c : Thread nD τ) a3 fullShare o ∗ owns (c : Thread nD τ) a4 fullShare pw ∗ owns (c : Thread nD τ) a5 fullShare pb ∗ owns (c : Thread nD τ) a6 fullShare q ∗ owns (c : Thread nD τ) a7 fullShare k ∗ owns (c : Thread nD τ) a8 fullShare v
            ∗ (iprop(owns (c : Thread nD τ) a1 fullShare x ∗ owns (c : Thread nD τ) a2 fullShare w ∗ owns (c : Thread nD τ) a3 fullShare o ∗ owns (c : Thread nD τ) a4 fullShare pw ∗ owns (c : Thread nD τ) a5 fullShare pb ∗ (a6.view.loc (c : Thread nD τ) ↦[a6.view.set]{fullShare} a6.view.writes (Elt F) (h6.unread q) [⟨Rect.unit (k0_off1 i) S256x64.size (k0_off1_inb i hc1), k0_pay4 x pw pb⟩]) ∗ (a7.view.loc (c : Thread nD τ) ↦[a7.view.set]{fullShare} a7.view.writes (Elt F) (h7.unread k) [⟨Rect.unit (k0_off2 i) S64x256.size (k0_off2_inb i hc1), k0_pay5 x pw pb⟩]) ∗ (a8.view.loc (c : Thread nD τ) ↦[a8.view.set]{fullShare} a8.view.writes (Elt F) (h8.unread v) [⟨Rect.unit (k0_off3 i) S256x128.size (k0_off3_inb i hc1), k0_pay6 x pw pb⟩])) -∗ K ⟨⟩))
          ⊢ wp frame (wpE (defs₀ (F := F)) Variants.none c none) E (cc0__attn_kernel i a1 h1 a2 h2 a3 h3 a4 h4 a5 h5 a6 h6 a7 h7 a8 h8) K := by
  have e0 := project_Q c i a1 h1 a2 h2 a3 h3 a4 h4 a5 h5 a6 h6 a7 h7 a8 h8 hc0 hc1 hc2 x w pw pb
  have e1 := project_K c i a1 h1 a2 h2 a3 h3 a4 h4 a5 h5 a6 h6 a7 h7 a8 h8 hc0 hc1 hc2 x w pw pb
  have e2 := project_V c i a1 h1 a2 h2 a3 h3 a4 h4 a5 h5 a6 h6 a7 h7 a8 h8 hc0 hc1 hc2 x w pw pb
  generalize runProject c i a1 h1 a2 h2 a3 h3 a4 h4 a5 h5 a6 h6 a7 h7 a8 h8 hc0 hc1 hc2 x w pw pb = R at e0 e1 e2
  obtain ⟨L6, L7, L8, h⟩ := R
  dsimp only at e0 e1 e2
  subst e0
  subst e1
  subst e2
  exact h

/-- The last point runs to the output's block. -/
theorem attend_runs (c : Dev nD) (i : grid0.Coords) (a1 : Memref sig .tc .vmem S1x256x1024 .f32) (h1 : a1.IsWhole) (a2 : Memref sig .tc .vmem S3x1025x64 .f32) (h2 : a2.IsWhole) (a3 : Memref sig .tc .vmem S1x2048x64 .f32) (h3 : a3.IsWhole) (a4 : Memref sig .tc .vmem S1024x192 .bf16) (h4 : a4.IsWhole) (a5 : Memref sig .tc .vmem S1x192 .f32) (h5 : a5.IsWhole) (a6 : Memref sig .tc .vmem S2048x64 .bf16) (h6 : a6.IsWhole) (a7 : Memref sig .tc .vmem S64x2048 .bf16) (h7 : a7.IsWhole) (a8 : Memref sig .tc .vmem S2048x128 .bf16) (h8 : a8.IsWhole) (hc0 : ¬first i) (hc1 : ¬projects i) (hc2 : attends i)
    (x : Vec F S1x256x1024 .f32) (w : Vec F S3x1025x64 .f32) (pw : Vec F S1024x192 .bf16) (pb : Vec F S1x192 .f32) (q : Vec F S2048x64 .bf16) (k : Vec F S64x2048 .bf16) (v : Vec F S2048x128 .bf16) :
    ∀ (E : Set ℕ) (K : PUnit → sProp 𝕄),
        iprop(owns (c : Thread nD τ) a1 fullShare x ∗ owns (c : Thread nD τ) a2 fullShare w ∗ (∃ d, owns (c : Thread nD τ) a3 fullShare d) ∗ owns (c : Thread nD τ) a4 fullShare pw ∗ owns (c : Thread nD τ) a5 fullShare pb ∗ owns (c : Thread nD τ) a6 fullShare q ∗ owns (c : Thread nD τ) a7 fullShare k ∗ owns (c : Thread nD τ) a8 fullShare v
            ∗ (iprop(owns (c : Thread nD τ) a1 fullShare x ∗ owns (c : Thread nD τ) a2 fullShare w ∗ (∃ f, a3.view.loc (c : Thread nD τ) ↦[a3.view.set]{fullShare} a3.view.writes (Elt F) f (piecesO q k v)) ∗ owns (c : Thread nD τ) a4 fullShare pw ∗ owns (c : Thread nD τ) a5 fullShare pb ∗ owns (c : Thread nD τ) a6 fullShare q ∗ owns (c : Thread nD τ) a7 fullShare k ∗ owns (c : Thread nD τ) a8 fullShare v) -∗ K ⟨⟩))
          ⊢ wp frame (wpE (defs₀ (F := F)) Variants.none c none) E (cc0__attn_kernel i a1 h1 a2 h2 a3 h3 a4 h4 a5 h5 a6 h6 a7 h7 a8 h8) K := by
  have e0 := attend_O c i a1 h1 a2 h2 a3 h3 a4 h4 a5 h5 a6 h6 a7 h7 a8 h8 hc0 hc1 hc2 x w pw pb q k v
  generalize runAttend c i a1 h1 a2 h2 a3 h3 a4 h4 a5 h5 a6 h6 a7 h7 a8 h8 hc0 hc1 hc2 x w pw pb q k v = R at e0
  obtain ⟨L3, h⟩ := R
  dsimp only at e0
  subst e0
  exact h

end Cert.KernelIdeal.Att

end
-- ==== Proof.Frame.lean ====
/- The whole run: what the scratch arrays hold between two points, what each point does, and where the arrays end. -/
module

public import proofs.«01_k».proof.Proof.RunSpec

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points hand on -/

/-- The blocks of activations, one per projecting point. -/
def xBlk (c : Dev nD) (b : Fin 8) : Vec F S1x256x1024 .f32 := iblk m c 0 ⟨b.val, lt_of_lt_of_eq (show b.val < 9 by omega) N_0.symm⟩
/-- The weights and biases, as the first point finds them. -/
def wBlk (c : Dev nD) : Vec F S3x1025x64 .f32 := iblk m c 1 ⟨0, lt_of_lt_of_eq (show 0 < 9 by omega) N_0.symm⟩

/-- The output's block as the last point leaves it. -/
def result (c : Dev nD) : Vec F S1x2048x64 .f32 :=
  outO (allQ (xBlk m c) (packW (wBlk m c)) (packB (wBlk m c))) (allK (xBlk m c) (packW (wBlk m c)) (packB (wBlk m c))) (allV (xBlk m c) (packW (wBlk m c)) (packB (wBlk m c)))

/-- Between points: the packed weights and biases, and the queries, keys and values filled up to the points passed. -/
def Inv (c : Dev nD) : ℕ → sProp 𝕄
  | 0 => Pipeline.ΦA spec0 c
  | n + 1 => iprop(iprop(owns (c : Thread nD τ) sW fullShare (packW (wBlk m c)) ∗ owns (c : Thread nD τ) sB fullShare (packB (wBlk m c))
      ∗ (∃ q, ∃ k, ∃ v, ⌜Filled (n + 1) (xBlk m c) (packW (wBlk m c)) (packB (wBlk m c)) q k v⌝ ∗ owns (c : Thread nD τ) sQ fullShare q ∗ owns (c : Thread nD τ) sK fullShare k ∗ owns (c : Thread nD τ) sV fullShare v))
      ∗ (∃ r, prngReg c r))

/-- What holds after a point. -/
theorem Inv_succ (c : Dev nD) (n : ℕ) : Inv m c (n + 1) = iprop(iprop(owns (c : Thread nD τ) sW fullShare (packW (wBlk m c)) ∗ owns (c : Thread nD τ) sB fullShare (packB (wBlk m c))
      ∗ (∃ q, ∃ k, ∃ v, ⌜Filled (n + 1) (xBlk m c) (packW (wBlk m c)) (packB (wBlk m c)) q k v⌝ ∗ owns (c : Thread nD τ) sQ fullShare q ∗ owns (c : Thread nD τ) sK fullShare k ∗ owns (c : Thread nD τ) sV fullShare v))
      ∗ (∃ r, prngReg c r)) := rfl

/-- What holds before a point that is not the first. -/
theorem Inv_pos (c : Dev nD) (n : ℕ) (h : n ≠ 0) : Inv m c n = iprop(iprop(owns (c : Thread nD τ) sW fullShare (packW (wBlk m c)) ∗ owns (c : Thread nD τ) sB fullShare (packB (wBlk m c))
      ∗ (∃ q, ∃ k, ∃ v, ⌜Filled n (xBlk m c) (packW (wBlk m c)) (packB (wBlk m c)) q k v⌝ ∗ owns (c : Thread nD τ) sQ fullShare q ∗ owns (c : Thread nD τ) sK fullShare k ∗ owns (c : Thread nD τ) sV fullShare v))
      ∗ (∃ r, prngReg c r)) := by
  cases n with
  | zero => exact absurd rfl h
  | succ n => rfl

/-- The proof data of the grid: each operand's block after the body, and what holds between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => result m c
  Φ t := Inv m c t.val
  q _ := fullShare
  owed _ := 0

/-- The arrays are as the grid finds them. -/
theorem A_eq (c : Dev nD) (w : Fin cfg0.W) : (dats m 0 c).A w = V m c (Pipeline.arrRef spec0 w) := by
  dsimp only [dats]
/-- What holds at a point's start. -/
theorem Inv_castSucc (c : Dev nD) (t : Fin cfg0.N) : (dats m 0 c).Φ t.castSucc = Inv m c t.val := by dsimp only [dats]; rfl
/-- What holds at a point's end. -/
theorem Inv_end (c : Dev nD) (t : Fin cfg0.N) : (dats m 0 c).Φ t.succ = Inv m c (t.val + 1) := by dsimp only [dats]; rfl
/-- The body leaves the activations' block. -/
theorem after_x (c : Dev nD) (t : Fin cfg0.N) : (dats m 0 c).after 0 t = iblk m c 0 t := by dsimp only [dats]
/-- The body leaves the weights' block. -/
theorem after_w (c : Dev nD) (t : Fin cfg0.N) : (dats m 0 c).after 1 t = iblk m c 1 t := by dsimp only [dats]
/-- The output's block after a point that fills it. -/
theorem after_o (c : Dev nD) (t : Fin cfg0.N) : (dats m 0 c).after 2 t = result m c := by dsimp only [dats]
/-- The activations' buffer holds its block at every point. -/
theorem before_x (c : Dev nD) (t : Fin cfg0.N) (d) : (dats m 0 c).before 0 t d = iblk m c 0 t :=
  before0_0_of m (dats m 0 c) (A_eq m c 0) (after_x m c) t d
/-- The weights' buffer holds its block at every point. -/
theorem before_w (c : Dev nD) (t : Fin cfg0.N) (d) : (dats m 0 c).before 1 t d = iblk m c 1 t :=
  before0_1_of m (dats m 0 c) (A_eq m c 1) (after_w m c) t d

/-! ## The body at a point -/

/-- What the body is called with. -/
def bodyPre (c : Dev nD) (t : Fin cfg0.N) : sProp 𝕄 :=
  iprop((dats m 0 c).Φ t.castSucc ∗ (dats m 0 c).owesAt () t.castSucc
    ∗ (∃ d, owns (c : Thread nD τ) (xM t) fullShare ((dats m 0 c).before 0 t d))
    ∗ (∃ d, owns (c : Thread nD τ) (wM t) fullShare ((dats m 0 c).before 1 t d))
    ∗ (∃ d, owns (c : Thread nD τ) (oM t) fullShare ((dats m 0 c).before 2 t d)))

/-- What it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 800000 in
/-- The body at any point: the first packs the weights and projects a block, the next seven project a block each, the last attends. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_x, before_w]
  rw [show (dats m 0 c).owesAt () t.succ = (dats m 0 c).owesAt () t.castSucc from rfl]
  rw [Inv_end, Inv_succ, Inv_castSucc]
  rw [show (dats m 0 c).leavesExact 0 t = owns (c : Thread nD τ) (xM t) fullShare ((dats m 0 c).after 0 t) from by
      unfold Dat.leavesExact; rw [live_x t], after_x]
  rw [show (dats m 0 c).leavesExact 1 t = owns (c : Thread nD τ) (wM t) fullShare ((dats m 0 c).after 1 t) from by
      unfold Dat.leavesExact; rw [live_w t], after_w]
  have hN : t.val < 9 := lt_of_lt_of_eq t.isLt (show cfg0.N = 9 from N_0)
  by_cases h8 : t.val < 8
  · have hc1 : projects (grid0.coords t) := (projects_iff t).mpr h8
    have hc2 : ¬attends (grid0.coords t) := fun h => by have := (attends_iff t).mp h; omega
    rw [Dat.leavesExact_idle (dats m 0 c) 2 t (idle_o t h8) (kept_o t h8)]
    by_cases h0 : t.val = 0
    · have hc0 : first (grid0.coords t) := (first_iff t).mpr h0
      have hw : iblk m c 1 t = wBlk m c := by
        have key : ∀ (n : ℕ) (hn : n < cfg0.N), n = 0 → (iblk m c 1 ⟨n, hn⟩ : Vec F S3x1025x64 .f32) = wBlk m c := by
          intro n hn e; subst e; rfl
        exact key t.val t.isLt h0
      have hx : iblk m c 0 t = xBlk m c ⟨t.val, h8⟩ := rfl
      rw [show Inv m c t.val = Pipeline.ΦA spec0 c from by rw [h0]; rfl, scratch_eq]
      rw [hw, hx]
      iintro ⟨⟨⟨HS0, HS1, ⟨%q, HS2⟩, ⟨%k, HS3⟩, ⟨%v, HS4⟩⟩, Hg⟩, Ho, ⟨%d0, H0⟩, ⟨%d1, H1⟩, ⟨%d2, H2⟩⟩
      iapply (first_runs c (grid0.coords t) _ _ _ _ _ _ _ _ _ _ _ _ _ _ _ _ hc0 hc1 hc2 (xBlk m c ⟨t.val, h8⟩) (wBlk m c) _ q k v Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      isplitl [HS4]; · iexact HS4
      iintro ⟨H0, H1, H2, ⟨%es0, HS0⟩, ⟨%es1, HS1⟩, HS2, HS3, HS4⟩
      isplitl [HS0 HS1 HS2 HS3 HS4 Hg]
      · isplitl [HS0 HS1 HS2 HS3 HS4]
        · isplitl [HS0]
          · unfold owns; iexists _; isplitr
            swap; · iexact HS0
            ipureintro; exact View.read_writes_eq_canon _ _ _ (cover_W _)
          isplitl [HS1]
          · unfold owns; iexists _; isplitr
            swap; · iexact HS1
            ipureintro; exact View.read_writes_eq_canon _ _ _ (cover_B _)
          iexists _; iexists _; iexists _
          isplitr
          · ipureintro
            exact filled_step t h8 sQ (Memref.isWhole_whole _) sK (Memref.isWhole_whole _) sV (Memref.isWhole_whole _) (xBlk m c) (packW (wBlk m c)) (packB (wBlk m c)) q k v hc1 (by rw [h0]; exact filled_zero _ _ _ _ _ _)
          isplitl [HS2]
          · unfold owns; iexists _; isplitr
            swap; · iexact HS2
            ipureintro; rfl
          isplitl [HS3]
          · unfold owns; iexists _; isplitr
            swap; · iexact HS3
            ipureintro; rfl
          unfold owns; iexists _; isplitr
          swap; · iexact HS4
          ipureintro; rfl
        iexact Hg
      isplitl [Ho]; · iexact Ho
      isplitl [H0]; · iexact H0
      isplitl [H1]; · iexact H1
      iexists _; iexact H2
    · have hc0 : ¬first (grid0.coords t) := fun h => h0 ((first_iff t).mp h)
      have hx : iblk m c 0 t = xBlk m c ⟨t.val, h8⟩ := rfl
      rw [Inv_pos m c t.val h0, hx]
      iintro ⟨⟨⟨HS0, HS1, ⟨%q, %k, %v, %hf, HS2, HS3, HS4⟩⟩, Hg⟩, Ho, ⟨%d0, H0⟩, ⟨%d1, H1⟩, ⟨%d2, H2⟩⟩
      iapply (project_runs c (grid0.coords t) _ _ _ _ _ _ _ _ _ _ _ _ _ _ _ _ hc0 hc1 hc2 (xBlk m c ⟨t.val, h8⟩) (iblk m c 1 t) (packW (wBlk m c)) (packB (wBlk m c)) _ q k v Set.univ _)
      isplitl [H0]; · iexact H0
      isplitl [H1]; · iexact H1
      isplitl [H2]; · iexact H2
      isplitl [HS0]; · iexact HS0
      isplitl [HS1]; · iexact HS1
      isplitl [HS2]; · iexact HS2
      isplitl [HS3]; · iexact HS3
      isplitl [HS4]; · iexact HS4
      iintro ⟨H0, H1, H2, HS0, HS1, HS2, HS3, HS4⟩
      isplitl [HS0 HS1 HS2 HS3 HS4 Hg]
      · isplitl [HS0 HS1 HS2 HS3 HS4]
        · isplitl [HS0]; · iexact HS0
          isplitl [HS1]; · iexact HS1
          iexists _; iexists _; iexists _
          isplitr
          · ipureintro
            exact filled_step t h8 sQ (Memref.isWhole_whole _) sK (Memref.isWhole_whole _) sV (Memref.isWhole_whole _) (xBlk m c) (packW (wBlk m c)) (packB (wBlk m c)) q k v hc1 hf
          isplitl [HS2]
          · unfold owns; iexists _; isplitr
            swap; · iexact HS2
            ipureintro; rfl
          isplitl [HS3]
          · unfold owns; iexists _; isplitr
            swap; · iexact HS3
            ipureintro; rfl
          unfold owns; iexists _; isplitr
          swap; · iexact HS4
          ipureintro; rfl
        iexact Hg
      isplitl [Ho]; · iexact Ho
      isplitl [H0]; · iexact H0
      isplitl [H1]; · iexact H1
      iexists _; iexact H2
  · have hc0 : ¬first (grid0.coords t) := fun h => by have := (first_iff t).mp h; omega
    have hc1 : ¬projects (grid0.coords t) := fun h => h8 ((projects_iff t).mp h)
    have hc2 : attends (grid0.coords t) := (attends_iff t).mpr (by omega)
    rw [show (dats m 0 c).leavesExact 2 t = owns (c : Thread nD τ) (oM t) fullShare ((dats m 0 c).after 2 t) from by
      unfold Dat.leavesExact; rw [live_o t h8], after_o]
    rw [Inv_pos m c t.val (by omega)]
    iintro ⟨⟨⟨HS0, HS1, ⟨%q, %k, %v, %hf, HS2, HS3, HS4⟩⟩, Hg⟩, Ho, ⟨%d0, H0⟩, ⟨%d1, H1⟩, ⟨%d2, H2⟩⟩
    iapply (attend_runs c (grid0.coords t) _ _ _ _ _ _ _ _ _ _ _ _ _ _ _ _ hc0 hc1 hc2 (iblk m c 0 t) (iblk m c 1 t) (packW (wBlk m c)) (packB (wBlk m c)) q k v Set.univ _)
    isplitl [H0]; · iexact H0
    isplitl [H1]; · iexact H1
    isplitl [H2]; · iexists _; iexact H2
    isplitl [HS0]; · iexact HS0
    isplitl [HS1]; · iexact HS1
    isplitl [HS2]; · iexact HS2
    isplitl [HS3]; · iexact HS3
    isplitl [HS4]; · iexact HS4
    iintro ⟨H0, H1, ⟨%e2, H2⟩, HS0, HS1, HS2, HS3, HS4⟩
    isplitl [HS0 HS1 HS2 HS3 HS4 Hg]
    · isplitl [HS0 HS1 HS2 HS3 HS4]
      · isplitl [HS0]; · iexact HS0
        isplitl [HS1]; · iexact HS1
        iexists q; iexists k; iexists v
        isplitr
        · ipureintro; exact filled_stay (by omega) hf
        isplitl [HS2]; · iexact HS2
        isplitl [HS3]; · iexact HS3
        iexact HS4
      iexact Hg
    isplitl [Ho]; · iexact Ho
    isplitl [H0]; · iexact H0
    isplitl [H1]; · iexact H1
    unfold owns; iexists _; isplitr
    swap; · iexact H2
    ipureintro
    refine (View.read_writes_eq_canon _ _ _ (cover_O q k v)).trans ?_
    obtain ⟨rfl, rfl, rfl⟩ := filled_all (by omega) hf
    rfl

/-- The body table's row at a point is the body at that point. -/
theorem body_row (t : Fin cfg0.N) :
    defs₀ (F := F) .tc cfg0.body (cfg0.bodyArgs t (cfg0.slots t)) = bodyAt0 t := by
  unfold defs₀; rw [Defs.onTc_tc]

/-- The body meets what the grid asks of it, at every point. -/
theorem body_sound (c : Dev nD) : BodyObligation (dats (F := F) m 0 c) (defs₀ (F := F)) Variants.none () Set.univ := fun t => by
  rw [bigSep_W0, bigSep_W0, body_row]
  exact triple_restated (sound_body m c t) rfl .rfl fun _ => .rfl

/-- What the launch hands over is what holds before the first point. -/
theorem enter (c : Dev nD) : Pipeline.ΦA spec0 c ⊢ (dats m 0 c).Φ 0 := by
  rw [show (dats m 0 c).Φ 0 = Pipeline.ΦA spec0 c from rfl]
  try exact Idealize.SL.BI.Entails.refl _

/-- What holds after the last point gives the scratch arrays back at some contents. -/
theorem leave (c : Dev nD) : (dats m 0 c).Φ (Fin.last cfg0.N) ⊢ Pipeline.ΦA spec0 c := by
  rw [show (dats m 0 c).Φ (Fin.last cfg0.N) = Inv m c (Fin.last cfg0.N).val from rfl,
    Inv_pos m c _ (by rw [Fin.val_last]; have : cfg0.N = 9 := N_0; omega), scratch_eq]
  iintro ⟨⟨HS0, HS1, ⟨%q, %k, %v, %hf, HS2, HS3, HS4⟩⟩, Hg⟩
  isplitl [HS0 HS1 HS2 HS3 HS4]
  · isplitl [HS0]
    · iexists _; iexact HS0
    isplitl [HS1]
    · iexists _; iexact HS1
    isplitl [HS2]
    · iexists _; iexact HS2
    isplitl [HS3]
    · iexists _; iexact HS3
    iexists _; iexact HS4
  iexact Hg

/-! ## The run -/

set_option backward.isDefEq.respectTransparency.types false in
/-- Every fair execution ends, with the arrays as the proof data say and every counter at zero. -/
theorem run_all : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_sound m c).loose) (hshare := fun c => (dats m 0 c).share_full fun _ => rfl)
    (howed := fun _ _ => rfl) (V := V m) (hmain := hmain m Variants.none) (hA := A_eq m) (hin := enter m) (hout := leave m)

/-- The same without the counters. -/
theorem run_post : θ_run defs (onTc (τ := τ) (main (F := F))) (s₀ m ρ) (Pipeline.FramePost cfgs (dats m) 0 (V m)) :=
  (θ_run defs _ _).mono (fun _ h => h.1) (run_all m ρ)

/-- The arguments end unchanged. -/
theorem args_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_post m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (args_kept m ρ) ((θ_run defs _ _).mono (fun _ h => h.2) (run_all m ρ))

/-! ## The output array -/

/-- The output is written back at the last point only. -/
theorem flush_o (t : Fin cfg0.N) (h : (cfg0.win 2).flush t = true) : t.val = 8 := by
  have := (flush0_2 t).mp h
  have hN : t.val < 9 := lt_of_lt_of_eq t.isLt (show cfg0.N = 9 from N_0)
  omega

/-- The output's block is its whole array. -/
theorem index_o : ∀ t : Fin cfg0.N, win0_2.index t = ![0, 0, 0] := (by decide +kernel : ∀ t : Fin grid0.N, _)
/-- The last point writes the output back. -/
theorem flush_last : (cfg0.win 2).flush ⟨8, lt_of_lt_of_eq (show 8 < 9 by omega) N_0.symm⟩ = true := by decide +kernel

/-- An index is in the output's block iff each coordinate is in its range. -/
theorem mem_o (t : Fin cfg0.N) (i : S1x2048x64.Idx) :
    i ∈ ((cfg0.win 2).blk t).view.set ↔ ∀ a : Fin 3, win0_2.index t a * S1x2048x64.size a ≤ (i a).val ∧ (i a).val < win0_2.index t a * S1x2048x64.size a + S1x2048x64.size a := by
  show i ∈ ((View.whole main_v10).slice (win0_2.rect t)).set ↔ _
  rw [View.set_slice_whole, Rect.mem_set_unit]
  exact Iff.rfl

/-- The output array ends holding the last point's block. -/
theorem out_array (c : Dev nD) : (dats m 0 c).arrAt 2 cfg0.N = (result m c : Buf (Elt F) ((c : Thread nD τ).loc main_v10)) := by
  refine (dats m 0 c).arrAt_eq_of_cover 2 _ (fun t hf => ?_) (fun i => ?_)
  · show (cfg0.win 2).cut (grid0.coords t) ((dats m 0 c).after 2 t) = _
    rw [after_o]
    generalize result m c = G
    funext y
    show G ((cfg0.win 2).xinj (grid0.coords t) y) = G (((cfg0.win 2).blk t).view.emb y)
    refine congrArg G ?_
    have e := index_o t
    have z0 := congrFun e 0; have z1 := congrFun e 1; have z2 := congrFun e 2
    have b0 : (((cfg0.win 2).blk t).view.emb y 0).val = win0_2.index t (0 : Fin 3) * 1 + 1 * (y 0).val := rfl
    have b1 : (((cfg0.win 2).blk t).view.emb y 1).val = win0_2.index t (1 : Fin 3) * 2048 + 1 * (y 1).val := rfl
    have b2 : (((cfg0.win 2).blk t).view.emb y 2).val = win0_2.index t (2 : Fin 3) * 64 + 1 * (y 2).val := rfl
    rw [z0] at b0; rw [z1] at b1; rw [z2] at b2
    have b0' : (((cfg0.win 2).blk t).view.emb y 0).val = 0 * 1 + 1 * (y 0).val := b0
    have b1' : (((cfg0.win 2).blk t).view.emb y 1).val = 0 * 2048 + 1 * (y 1).val := b1
    have b2' : (((cfg0.win 2).blk t).view.emb y 2).val = 0 * 64 + 1 * (y 2).val := b2
    funext a; apply Fin.ext
    match a with
    | ⟨0, _⟩ => show (y 0).val = (((cfg0.win 2).blk t).view.emb y 0).val; omega
    | ⟨1, _⟩ => show (y 1).val = (((cfg0.win 2).blk t).view.emb y 1).val; omega
    | ⟨2, _⟩ => show (y 2).val = (((cfg0.win 2).blk t).view.emb y 2).val; omega
  · refine ⟨⟨8, lt_of_lt_of_eq (show 8 < 9 by omega) N_0.symm⟩, flush_last, ?_⟩
    refine (mem_o _ i).mpr ?_
    have e := index_o ⟨8, lt_of_lt_of_eq (show 8 < 9 by omega) N_0.symm⟩
    have h0 : (i 0).val < 1 := (i 0).isLt
    have h1 : (i 1).val < 2048 := (i 1).isLt
    have h2 : (i 2).val < 64 := (i 2).isLt
    have z0 := congrFun e 0; have z1 := congrFun e 1; have z2 := congrFun e 2
    intro a
    match a with
    | ⟨0, _⟩ => exact (by rw [z0]; exact ⟨by show 0 * 1 ≤ _; omega, by show _ < 0 * 1 + 1; omega⟩ : win0_2.index _ (0 : Fin 3) * 1 ≤ (i 0).val ∧ (i 0).val < win0_2.index _ (0 : Fin 3) * 1 + 1)
    | ⟨1, _⟩ => exact (by rw [z1]; exact ⟨by show 0 * 2048 ≤ _; omega, by show _ < 0 * 2048 + 2048; omega⟩ : win0_2.index _ (1 : Fin 3) * 2048 ≤ (i 1).val ∧ (i 1).val < win0_2.index _ (1 : Fin 3) * 2048 + 2048)
    | ⟨2, _⟩ => exact (by rw [z2]; exact ⟨by show 0 * 64 ≤ _; omega, by show _ < 0 * 64 + 64; omega⟩ : win0_2.index _ (2 : Fin 3) * 64 ≤ (i 2).val ∧ (i 2).val < win0_2.index _ (2 : Fin 3) * 64 + 64)

/-- The run, read at the output: it ends holding the last point's block, the arguments unchanged. -/
theorem run_value : θ_run defs (onTc (τ := τ) (main (F := F))) ⟨m, fun _ => 0, ρ⟩ (fun r => ∀ c : Dev nD,
      r.2.mem ((c.tc : Thread nD τ).loc main_v10) = (result m c : Buf (Elt F) ((c : Thread nD τ).loc main_v10))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h.1 c).1 2).trans (out_array m c), h.2 c⟩) (θ_run_and (run_post m ρ) (args_kept m ρ))

end Cert.KernelIdeal.Att

end
-- ==== Proof.Same.lean ====
/- No operation is rewritten on the way to the extended reals, so the two kernel programs are one program under two names. -/
module

public import proofs.«01_k».proof.Proof.Gen.Kernel
public import proofs.«01_k».proof.Proof.Gen.KernelIdeal

@[expose] public section

noncomputable section

namespace Cert.KernelIdeal.Att

open Idealize.ShloMosaic Idealize.SL.Sem

attribute [local instance] Cert.Kernel.Gen.facts Cert.KernelIdeal.Gen.facts

variable {F : FTy → Type} [FloatOps F]

/-- The body the pipeline calls is the same in both programs. -/
theorem same_body : @Cert.Kernel.defs₀ F _ _ = @Cert.KernelIdeal.defs₀ F _ _ := by
  funext p
  cases p with
  | tc =>
    funext l a
    match l, a with
    | ⟨0, _⟩, (t, s) => rfl
  | scScalar _ => rfl
  | scVector _ _ => rfl

/-- So are the region and its pipeline. -/
theorem same_defs : @Cert.Kernel.defs F _ _ = @Cert.KernelIdeal.defs F _ _ := congrArg (Pipeline.defs Cert.KernelIdeal.pcfgs) same_body

/-- So is the host code around it. -/
theorem same_main : Cert.Kernel.main (F := F) = Cert.KernelIdeal.main (F := F) := rfl

end Cert.KernelIdeal.Att

end
-- ==== Proof.Rows.lean ====
/- What the last point computes, at an index: each row's weighted values over the sum of its weights, the weights being
the exponentials of the row's scores up to the row itself. -/
module

public import proofs.«01_k».proof.Proof.Filled

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-- One summand of row `i`: column `e` of value `c` under the exponential of its score, nothing past the row itself. -/
def term (q : Vec Ideal S2048x64 .bf16) (k : Vec Ideal S64x2048 .bf16) (v : Vec Ideal S2048x128 .bf16) (i : Fin 2048) (e : Fin 128) (c : Fin 2048) : EReal :=
  if c.val ≤ i.val then Ideal.exp (∑ x : Fin 64, q (ix2 i x) * k (ix2 x c)) * v (ix2 c e) else 0

/-- Row `i`, column `d` of the attention: the weighted values over the sum of the weights (column 64 of the values). -/
def attn (q : Vec Ideal S2048x64 .bf16) (k : Vec Ideal S64x2048 .bf16) (v : Vec Ideal S2048x128 .bf16) (i : Fin 2048) (d : Fin 64) : EReal :=
  (∑ c : Fin 2048, term q k v i ⟨d.val, by omega⟩ c) * Ideal.div 1 (∑ c : Fin 2048, term q k v i 64 c)

/-- The comparison of two places in a block, as numbers. -/
theorem select_le (x r : Fin 256) (a b : EReal) :
    Scalar.select (IntOp.cmpi CmpIPredicate.sle (BitVec.ofNat 32 x.val) (BitVec.ofNat 32 r.val)) a b = if x.val ≤ r.val then a else b := by
  have e : (BitVec.ofNat 32 x.val).sle (BitVec.ofNat 32 r.val) = decide (x.val ≤ r.val) := by
    have hx := x.isLt; have hr := r.isLt
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr Int.ofNat_le
  by_cases h : x.val ≤ r.val
  · rw [if_pos h]
    have : IntOp.cmpi CmpIPredicate.sle (BitVec.ofNat 32 x.val) (BitVec.ofNat 32 r.val) = 1#1 := by
      simp [IntOp.cmpi, e, h]
    rw [this]; rfl
  · rw [if_neg h]
    have : IntOp.cmpi CmpIPredicate.sle (BitVec.ofNat 32 x.val) (BitVec.ofNat 32 r.val) = 0#1 := by
      simp [IntOp.cmpi, e, h]
    rw [this]; rfl

/-- A sum up to row `row b r`: the blocks before the row's, then the row's block up to its place. -/
theorem sum_upto (n : ℕ) (hn : n + 256 ≤ 2048) (r : Fin 256) (f : Fin 2048 → EReal) :
    (∑ c : Fin 2048, if c.val ≤ n + r.val then f c else 0)
      = (∑ c : Fin n, f ⟨c.val, by omega⟩) + ∑ c : Fin 256, if c.val ≤ r.val then f ⟨n + c.val, by omega⟩ else 0 := by
  have hr := r.isLt
  let g : ℕ → EReal := fun c => if h : c < 2048 then (if c ≤ n + r.val then f ⟨c, h⟩ else 0) else 0
  have h0 : (∑ c : Fin 2048, if c.val ≤ n + r.val then f c else 0) = ∑ c ∈ Finset.range 2048, g c := by
    rw [← Fin.sum_univ_eq_sum_range]
    refine Finset.sum_congr rfl fun c _ => ?_
    show _ = dite _ _ _
    rw [dif_pos c.isLt]
  have h1 : (∑ c : Fin n, f ⟨c.val, by omega⟩) = ∑ c ∈ Finset.range n, g c := by
    rw [← Fin.sum_univ_eq_sum_range]
    refine Finset.sum_congr rfl fun c _ => ?_
    show _ = dite _ _ _
    rw [dif_pos (by omega), if_pos (by omega)]
  have h2 : (∑ c : Fin 256, if c.val ≤ r.val then f ⟨n + c.val, by omega⟩ else 0) = ∑ c ∈ Finset.range 256, g (n + c) := by
    rw [← Fin.sum_univ_eq_sum_range (fun c => g (n + c))]
    refine Finset.sum_congr rfl fun c _ => ?_
    show _ = dite _ _ _
    rw [dif_pos (by omega)]
    by_cases h : c.val ≤ r.val
    · rw [if_pos h, if_pos (by omega)]
    · rw [if_neg h, if_neg (by omega)]
  have h3 : ∑ c ∈ Finset.range (2048 - (n + 256)), g (n + 256 + c) = 0 := by
    refine Finset.sum_eq_zero fun c _ => ?_
    show dite _ _ _ = _
    split
    · rw [if_neg (by omega)]
    · rfl
  rw [h0, h1, h2, ← Finset.sum_range_add, show 2048 = (n + 256) + (2048 - (n + 256)) from by omega, Finset.sum_range_add, h3, add_zero]

/-- The eight row blocks of the output, by their number. -/
def rowsOf (q : Vec Ideal S2048x64 .bf16) (k : Vec Ideal S64x2048 .bf16) (v : Vec Ideal S2048x128 .bf16) : Fin 8 → Vec Ideal S1x256x64 .f32
  | ⟨0, _⟩ => rows0 (View.ld q (Rect.unit ![0, 0] ![256, 64] inb_S2048x64_S256x64_0_0)) (View.ld k (Rect.unit ![0, 0] ![64, 256] inb_S64x2048_S64x256_0_0)) (View.ld v (Rect.unit ![0, 0] ![256, 128] inb_S2048x128_S256x128_0_0))
  | ⟨1, _⟩ => rows1 (View.ld q (Rect.unit ![256, 0] ![256, 64] inb_S2048x64_S256x64_256_0)) (View.ld k (Rect.unit ![0, 0] ![64, 512] inb_S64x2048_S64x512_0_0)) (View.ld v (Rect.unit ![0, 0] ![512, 128] inb_S2048x128_S512x128_0_0))
  | ⟨2, _⟩ => rows2 (View.ld q (Rect.unit ![512, 0] ![256, 64] inb_S2048x64_S256x64_512_0)) (View.ld k (Rect.unit ![0, 0] ![64, 768] inb_S64x2048_S64x768_0_0)) (View.ld v (Rect.unit ![0, 0] ![768, 128] inb_S2048x128_S768x128_0_0))
  | ⟨3, _⟩ => rows3 (View.ld q (Rect.unit ![768, 0] ![256, 64] inb_S2048x64_S256x64_768_0)) (View.ld k (Rect.unit ![0, 0] ![64, 1024] inb_S64x2048_S64x1024_0_0)) (View.ld v (Rect.unit ![0, 0] ![1024, 128] inb_S2048x128_S1024x128_0_0))
  | ⟨4, _⟩ => rows4 (View.ld q (Rect.unit ![1024, 0] ![256, 64] inb_S2048x64_S256x64_1024_0)) (View.ld k (Rect.unit ![0, 0] ![64, 1280] inb_S64x2048_S64x1280_0_0)) (View.ld v (Rect.unit ![0, 0] ![1280, 128] inb_S2048x128_S1280x128_0_0))
  | ⟨5, _⟩ => rows5 (View.ld q (Rect.unit ![1280, 0] ![256, 64] inb_S2048x64_S256x64_1280_0)) (View.ld k (Rect.unit ![0, 0] ![64, 1536] inb_S64x2048_S64x1536_0_0)) (View.ld v (Rect.unit ![0, 0] ![1536, 128] inb_S2048x128_S1536x128_0_0))
  | ⟨6, _⟩ => rows6 (View.ld q (Rect.unit ![1536, 0] ![256, 64] inb_S2048x64_S256x64_1536_0)) (View.ld k (Rect.unit ![0, 0] ![64, 1792] inb_S64x2048_S64x1792_0_0)) (View.ld v (Rect.unit ![0, 0] ![1792, 128] inb_S2048x128_S1792x128_0_0))
  | ⟨7, _⟩ => rows7 (View.ld q (Rect.unit ![1792, 0] ![256, 64] inb_S2048x64_S256x64_1792_0)) (View.ld k (Rect.unit ![0, 0] ![64, 2048] inb_S64x2048_S64x2048_0_0)) (View.ld v (Rect.unit ![0, 0] ![2048, 128] inb_S2048x128_S2048x128_0_0))

/-- Row block `b` as a piece of the output's block. -/
def pieceOf (q : Vec Ideal S2048x64 .bf16) (k : Vec Ideal S64x2048 .bf16) (v : Vec Ideal S2048x128 .bf16) (b : Fin 8) : View.Piece (Elt Ideal) S1x2048x64 .f32 :=
  ⟨Rect.unit ![0, 256 * b.val, 0] ![1, 256, 64] (fun a => match a with
    | ⟨0, _⟩ => by show 0 + 1 ≤ 1; omega
    | ⟨1, _⟩ => by show 256 * b.val + 256 ≤ 2048; omega
    | ⟨2, _⟩ => by show 0 + 64 ≤ 64; omega), rowsOf q k v b⟩

/-- The pieces stored are the eight row blocks, last first. -/
theorem pieces_eq (q : Vec Ideal S2048x64 .bf16) (k : Vec Ideal S64x2048 .bf16) (v : Vec Ideal S2048x128 .bf16) :
    piecesO q k v = ([7, 6, 5, 4, 3, 2, 1, 0] : List (Fin 8)).map (pieceOf q k v) := rfl

/-- Among row blocks stored in any order, the one that holds an index gives what is found there. -/
theorem placed (q : Vec Ideal S2048x64 .bf16) (k : Vec Ideal S64x2048 .bf16) (v : Vec Ideal S2048x128 .bf16) (b : Fin 8) (r : Fin 256) (d : Fin 64) :
    ∀ L : List (Fin 8), b ∈ L → View.canon (L.map (pieceOf q k v)) (ix3 0 (row b r) d) = rowsOf q k v b (ix3 0 r d)
  | a :: L, h => by
    have hr := r.isLt
    by_cases e : a = b
    · subst e
      refine canon_mem _ _ _ (ix3 0 (row a r) d) (ix3 0 r d) ?_
      intro x
      match x with
      | ⟨0, _⟩ => rfl
      | ⟨1, _⟩ => rfl
      | ⟨2, _⟩ => show d.val = 0 + d.val; omega
    · have hne : a.val ≠ b.val := fun h => e (Fin.ext h)
      refine (canon_skip _ _ _ (ix3 0 (row b r) d) (1 : Fin 3) ?_).trans (placed q k v b r d L ((List.mem_cons.mp h).resolve_left (fun h => e h.symm)))
      rcases lt_or_gt_of_ne hne with h | h
      · exact Or.inr (by show 256 * a.val + 256 ≤ 256 * b.val + r.val; omega)
      · exact Or.inl (by show 256 * b.val + r.val < 256 * a.val; omega)

/-- A weighted column of values over a row of block `b`: the keys before the block, then the block's own up to the row. -/
def upto (q : Vec Ideal S2048x64 .bf16) (k : Vec Ideal S64x2048 .bf16) (v : Vec Ideal S2048x128 .bf16) (b : Fin 8) (r : Fin 256) (e : Fin 128) : EReal :=
  (∑ c : Fin (256 * b.val), Ideal.exp (∑ x : Fin 64, q (ix2 (row b r) x) * k (ix2 x ⟨c.val, by omega⟩)) * v (ix2 ⟨c.val, by omega⟩ e))
    + ∑ c : Fin 256, if c.val ≤ r.val then Ideal.exp (∑ x : Fin 64, q (ix2 (row b r) x) * k (ix2 x ⟨256 * b.val + c.val, by omega⟩)) * v (ix2 ⟨256 * b.val + c.val, by omega⟩ e) else 0

/-- The attention at a row of block `b`, in those terms. -/
theorem attn_upto (q : Vec Ideal S2048x64 .bf16) (k : Vec Ideal S64x2048 .bf16) (v : Vec Ideal S2048x128 .bf16) (b : Fin 8) (r : Fin 256) (d : Fin 64) :
    attn q k v (row b r) d = upto q k v b r ⟨d.val, by omega⟩ * Ideal.div 1 (upto q k v b r 64) :=
  congrArg₂ (fun x y => x * Ideal.div 1 y)
    (sum_upto (256 * b.val) (by omega) r (fun c => Ideal.exp (∑ x : Fin 64, q (ix2 (row b r) x) * k (ix2 x c)) * v (ix2 c ⟨d.val, by omega⟩)))
    (sum_upto (256 * b.val) (by omega) r (fun c => Ideal.exp (∑ x : Fin 64, q (ix2 (row b r) x) * k (ix2 x c)) * v (ix2 c 64)))

set_option maxHeartbeats 12000000 in
/-- What a row block computes, at an index, whichever its number: its two products, read through the mask and the joining. -/
theorem rows_apply (q : Vec Ideal S2048x64 .bf16) (k : Vec Ideal S64x2048 .bf16) (v : Vec Ideal S2048x128 .bf16) (b : Fin 8) (r : Fin 256) (d : Fin 64) :
    rowsOf q k v b (ix3 0 r d) = upto q k v b r ⟨d.val, by omega⟩ * Ideal.div 1 (upto q k v b r 64) := by
  fin_cases b
  all_goals
    dsimp only [rowsOf, rows0, rows1, rows2, rows3, rows4, rows5, rows6, rows7]
    unfold_payloads
    pointwise
    simp only [select_le]
  case «0» =>
    have er : row 0 r = (⟨r.val, by omega⟩ : Fin 2048) := Fin.ext (by show 256 * 0 + r.val = r.val; omega)
    have eu : ∀ e : Fin 128, upto q k v 0 r e = ∑ c : Fin 256, if c.val ≤ r.val then Ideal.exp (∑ x : Fin 64, q (ix2 (row 0 r) x) * k (ix2 x ⟨c.val, by omega⟩)) * v (ix2 ⟨c.val, by omega⟩ e) else 0 := fun e => by
      unfold upto
      simp only [Fin.val_zero, Nat.mul_zero, Finset.univ_eq_empty, Finset.sum_empty, zero_add]
    show _ = upto q k v 0 r ⟨d.val, by omega⟩ * Ideal.div 1 (upto q k v 0 r 64)
    simp only [eu, er]
  all_goals rfl

/-- The output's block, at every index. -/
theorem out_apply (q : Vec Ideal S2048x64 .bf16) (k : Vec Ideal S64x2048 .bf16) (v : Vec Ideal S2048x128 .bf16) (i : Fin 2048) (d : Fin 64) :
    outO q k v (ix3 0 i d) = attn q k v i d := by
  have h : ∀ (b : Fin 8) (r : Fin 256), outO q k v (ix3 0 (row b r) d) = attn q k v (row b r) d := by
    intro b r
    rw [attn_upto, ← rows_apply]
    show View.canon (piecesO q k v) _ = _
    rw [pieces_eq]
    exact placed q k v b r d _ (by fin_cases b <;> simp)
  have := h (blkOf i) (rowIn i)
  rwa [row_blk] at this

end Cert.KernelIdeal.Att

end
-- ==== Proof.Packed.lean ====
/- What the packed weights and biases hold, and what the queries, keys and values are, at an index, over the blocks of
the input and the stacked weights. -/
module

public import proofs.«01_k».proof.Proof.Rows

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators

/-- The factor of the query weights. -/
def scale : EReal := Ideal.ofBits .f32 0x3D000000#32

/-- The packed weights of the queries. -/
theorem packW_q (w : Vec Ideal S3x1025x64 .f32) (κ : Fin 1024) (d : Fin 64) :
    packW w (ix2 κ ⟨0 + d.val, by omega⟩ : S1024x192.Idx) = w (ix3 0 ⟨κ.val, by omega⟩ d) * scale := by
  unfold packW piecesW
  refine (canon_skip _ _ _ _ 1 (Or.inl (by show 0 + d.val < 128; omega))).trans ?_
  refine (canon_skip _ _ _ _ 1 (Or.inl (by show 0 + d.val < 64; omega))).trans ?_
  refine (canon_mem _ _ _ _ (ix2 κ d : S1024x64.Idx) (fun a => match a with
    | ⟨0, _⟩ => by show κ.val = 0 + κ.val; omega
    | ⟨1, _⟩ => by show 0 + d.val = 0 + d.val; rfl)).trans ?_
  unfold_payloads
  pointwise
  try rfl

/-- The packed biases of the queries. -/
theorem packB_q (w : Vec Ideal S3x1025x64 .f32) (d : Fin 64) :
    packB w (ix2 0 ⟨0 + d.val, by omega⟩ : S1x192.Idx) = w (ix3 0 1024 d) * scale := by
  unfold packB piecesB
  refine (canon_skip _ _ _ _ 1 (Or.inl (by show 0 + d.val < 128; omega))).trans ?_
  refine (canon_skip _ _ _ _ 1 (Or.inl (by show 0 + d.val < 64; omega))).trans ?_
  refine (canon_mem _ _ _ _ (ix2 0 d : S1x64.Idx) (fun a => match a with
    | ⟨0, _⟩ => by show (0:ℕ) = 0 + 0; rfl
    | ⟨1, _⟩ => by show 0 + d.val = 0 + d.val; rfl)).trans ?_
  unfold_payloads
  pointwise
  try rfl

/-- The packed weights of the keys. -/
theorem packW_k (w : Vec Ideal S3x1025x64 .f32) (κ : Fin 1024) (d : Fin 64) :
    packW w (ix2 κ ⟨64 + d.val, by omega⟩ : S1024x192.Idx) = w (ix3 1 ⟨κ.val, by omega⟩ d) := by
  unfold packW piecesW
  refine (canon_skip _ _ _ _ 1 (Or.inl (by show 64 + d.val < 128; omega))).trans ?_
  refine (canon_mem _ _ _ _ (ix2 κ d : S1024x64.Idx) (fun a => match a with
    | ⟨0, _⟩ => by show κ.val = 0 + κ.val; omega
    | ⟨1, _⟩ => by show 64 + d.val = 64 + d.val; rfl)).trans ?_
  unfold_payloads
  pointwise
  try rfl

/-- The packed biases of the keys. -/
theorem packB_k (w : Vec Ideal S3x1025x64 .f32) (d : Fin 64) :
    packB w (ix2 0 ⟨64 + d.val, by omega⟩ : S1x192.Idx) = w (ix3 1 1024 d) := by
  unfold packB piecesB
  refine (canon_skip _ _ _ _ 1 (Or.inl (by show 64 + d.val < 128; omega))).trans ?_
  refine (canon_mem _ _ _ _ (ix2 0 d : S1x64.Idx) (fun a => match a with
    | ⟨0, _⟩ => by show (0:ℕ) = 0 + 0; rfl
    | ⟨1, _⟩ => by show 64 + d.val = 64 + d.val; rfl)).trans ?_
  unfold_payloads
  pointwise
  try rfl

/-- The packed weights of the values. -/
theorem packW_v (w : Vec Ideal S3x1025x64 .f32) (κ : Fin 1024) (d : Fin 64) :
    packW w (ix2 κ ⟨128 + d.val, by omega⟩ : S1024x192.Idx) = w (ix3 2 ⟨κ.val, by omega⟩ d) := by
  unfold packW piecesW
  refine (canon_mem _ _ _ _ (ix2 κ d : S1024x64.Idx) (fun a => match a with
    | ⟨0, _⟩ => by show κ.val = 0 + κ.val; omega
    | ⟨1, _⟩ => by show 128 + d.val = 128 + d.val; rfl)).trans ?_
  unfold_payloads
  pointwise
  try rfl

/-- The packed biases of the values. -/
theorem packB_v (w : Vec Ideal S3x1025x64 .f32) (d : Fin 64) :
    packB w (ix2 0 ⟨128 + d.val, by omega⟩ : S1x192.Idx) = w (ix3 2 1024 d) := by
  unfold packB piecesB
  refine (canon_mem _ _ _ _ (ix2 0 d : S1x64.Idx) (fun a => match a with
    | ⟨0, _⟩ => by show (0:ℕ) = 0 + 0; rfl
    | ⟨1, _⟩ => by show 128 + d.val = 128 + d.val; rfl)).trans ?_
  unfold_payloads
  pointwise
  try rfl

variable (xs : Fin 8 → Vec Ideal S1x256x1024 .f32) (w : Vec Ideal S3x1025x64 .f32)

/-- The queries at an index. -/
theorem allQ_apply (i : Fin 2048) (d : Fin 64) :
    allQ xs (packW w) (packB w) (ix2 i d)
      = (∑ κ : Fin 1024, xs (blkOf i) (ix3 0 (rowIn i) κ) * (w (ix3 0 ⟨κ.val, by omega⟩ d) * scale)) + w (ix3 0 1024 d) * scale := by
  have h : ∀ (x : Vec Ideal S1x256x1024 .f32) (pw : Vec Ideal S1024x192 .bf16) (pb : Vec Ideal S1x192 .f32) (r : Fin 256),
      k0_pay4 x pw pb (ix2 r d) = (∑ κ : Fin 1024, x (ix3 0 r κ) * pw (ix2 κ ⟨d.val, by omega⟩)) + pb (ix2 0 ⟨d.val, by omega⟩) := by
    intro x pw pb r; unfold_payloads; pointwise
  refine (h _ _ _ _).trans ?_
  have e : (⟨d.val, by omega⟩ : Fin 192) = ⟨0 + d.val, by omega⟩ := Fin.ext (by show d.val = 0 + d.val; omega)
  rw [e]
  simp only [packW_q, packB_q]
  rfl

/-- The keys at an index. -/
theorem allK_apply (i : Fin 2048) (d : Fin 64) :
    allK xs (packW w) (packB w) (ix2 d i)
      = (∑ κ : Fin 1024, xs (blkOf i) (ix3 0 (rowIn i) κ) * w (ix3 1 ⟨κ.val, by omega⟩ d)) + w (ix3 1 1024 d) := by
  have h : ∀ (x : Vec Ideal S1x256x1024 .f32) (pw : Vec Ideal S1024x192 .bf16) (pb : Vec Ideal S1x192 .f32) (r : Fin 256),
      k0_pay5 x pw pb (ix2 d r) = (∑ κ : Fin 1024, x (ix3 0 r κ) * pw (ix2 κ ⟨64 + d.val, by omega⟩)) + pb (ix2 0 ⟨64 + d.val, by omega⟩) := by
    intro x pw pb r; unfold_payloads; pointwise
  refine (h _ _ _ _).trans ?_
  simp only [packW_k, packB_k]
  rfl

/-- The values at an index of their own columns. -/
theorem allV_apply (i : Fin 2048) (d : Fin 64) :
    allV xs (packW w) (packB w) (ix2 i ⟨d.val, by omega⟩)
      = (∑ κ : Fin 1024, xs (blkOf i) (ix3 0 (rowIn i) κ) * w (ix3 2 ⟨κ.val, by omega⟩ d)) + w (ix3 2 1024 d) := by
  have h : ∀ (x : Vec Ideal S1x256x1024 .f32) (pw : Vec Ideal S1024x192 .bf16) (pb : Vec Ideal S1x192 .f32) (r : Fin 256),
      k0_pay6 x pw pb (ix2 r ⟨d.val, by omega⟩) = (∑ κ : Fin 1024, x (ix3 0 r κ) * pw (ix2 κ ⟨128 + d.val, by omega⟩)) + pb (ix2 0 ⟨128 + d.val, by omega⟩) := by
    intro x pw pb r
    unfold_payloads
    pointwise
    try rw [dif_pos d.isLt]
  refine (h _ _ _ _).trans ?_
  simp only [packW_v, packB_v]
  rfl

/-- Column 64 of the values is one. -/
theorem allV_one (i : Fin 2048) : allV xs (packW w) (packB w) (ix2 i 64) = 1 := by
  have h : ∀ (x : Vec Ideal S1x256x1024 .f32) (pw : Vec Ideal S1024x192 .bf16) (pb : Vec Ideal S1x192 .f32) (r : Fin 256),
      k0_pay6 x pw pb (ix2 r 64) = 1 := by
    intro x pw pb r
    unfold_payloads
    pointwise
  exact h _ _ _ _

end Cert.KernelIdeal.Att

end
-- ==== Proof.Wall.lean ====
/- The blocks of the input and the stacked weights, at an index, in terms of the arguments. -/
module

public import proofs.«01_k».proof.Proof.Packed
public import proofs.«01_k».proof.Proof.Frame
public import Idealize.ShloMosaic.Lib.StableHlo.ReadAt

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (m : (ℓ : Loc nD τ sig) → Buf (Elt Ideal) ℓ)

/-- Which block of the input point `b` takes. -/
theorem x_index (b : Fin 8) :
    (cfg0.win 0).index ⟨b.val, lt_of_lt_of_eq (show b.val < 9 by omega) N_0.symm⟩ (0 : Fin 3) = 0
    ∧ (cfg0.win 0).index ⟨b.val, lt_of_lt_of_eq (show b.val < 9 by omega) N_0.symm⟩ (1 : Fin 3) = b.val
    ∧ (cfg0.win 0).index ⟨b.val, lt_of_lt_of_eq (show b.val < 9 by omega) N_0.symm⟩ (2 : Fin 3) = 0 := by
  revert b
  decide +kernel

/-- Block `b` of the input, at an index. -/
theorem xBlk_apply (c : Dev nD) (b : Fin 8) (r : Fin 256) (κ : Fin 1024) :
    xBlk m c b (ix3 0 r κ) = m ((c.tc : Thread nD τ).loc main_arg0) (ix3 0 (row b r) κ) := by
  unfold xBlk iblk
  have e : V m c (Pipeline.arrRef spec0 0) = m ((c.tc : Thread nD τ).loc main_arg0) := V_main_arg0 m c
  rw [e]
  refine congrArg (m ((c.tc : Thread nD τ).loc main_arg0)) (funext fun a => Fin.ext ?_)
  have hi := x_index b
  match a with
  | ⟨0, _⟩ => refine (Pipeline.Window.rect_emb_val (cfg0.win 0) _ _ _ rfl).trans ?_; show ((cfg0.win 0).index _ 0) * 1 + 0 = 0; rw [hi.1]
  | ⟨1, _⟩ => refine (Pipeline.Window.rect_emb_val (cfg0.win 0) _ _ _ rfl).trans ?_; show ((cfg0.win 0).index _ 1) * 256 + r.val = 256 * b.val + r.val; rw [hi.2.1]; omega
  | ⟨2, _⟩ => refine (Pipeline.Window.rect_emb_val (cfg0.win 0) _ _ _ rfl).trans ?_; show ((cfg0.win 0).index _ 2) * 1024 + κ.val = κ.val; rw [hi.2.2]; omega

/-- The stacked weights as the region finds them. -/
theorem wBlk_eq (c : Dev nD) (s : Fin 3) (κ : Fin 1025) (d : Fin 64) :
    wBlk m c (ix3 s κ d) = V m c main_v9 (ix3 s κ d) := by
  unfold wBlk iblk
  refine congrArg (V m c main_v9) (funext fun a => Fin.ext ?_)
  match a with
  | ⟨0, _⟩ => show 0 + 1 * s.val = s.val; omega
  | ⟨1, _⟩ => show 0 + 1 * κ.val = κ.val; omega
  | ⟨2, _⟩ => show 0 + 1 * d.val = d.val; omega

/-- Projection 0's weights in the stack. -/
theorem wall_0 (c : Dev nD) (κ : Fin 1024) (d : Fin 64) :
    wBlk m c (ix3 0 ⟨κ.val, by omega⟩ d) = m ((c.tc : Thread nD τ).loc main_arg1) (ix2 κ d) := by
  rw [wBlk_eq]
  unfold V
  repeat after_reads_at
  all_goals rfl

/-- Projection 0's biases in the stack. -/
theorem wall_0b (c : Dev nD) (d : Fin 64) :
    wBlk m c (ix3 0 1024 d) = m ((c.tc : Thread nD τ).loc main_arg2) (ix1 d) := by
  rw [wBlk_eq]
  unfold V
  repeat after_reads_at
  all_goals rfl

/-- Projection 1's weights in the stack. -/
theorem wall_1 (c : Dev nD) (κ : Fin 1024) (d : Fin 64) :
    wBlk m c (ix3 1 ⟨κ.val, by omega⟩ d) = m ((c.tc : Thread nD τ).loc main_arg3) (ix2 κ d) := by
  rw [wBlk_eq]
  unfold V
  repeat after_reads_at
  all_goals rfl

/-- Projection 1's biases in the stack. -/
theorem wall_1b (c : Dev nD) (d : Fin 64) :
    wBlk m c (ix3 1 1024 d) = m ((c.tc : Thread nD τ).loc main_arg4) (ix1 d) := by
  rw [wBlk_eq]
  unfold V
  repeat after_reads_at
  all_goals rfl

/-- Projection 2's weights in the stack. -/
theorem wall_2 (c : Dev nD) (κ : Fin 1024) (d : Fin 64) :
    wBlk m c (ix3 2 ⟨κ.val, by omega⟩ d) = m ((c.tc : Thread nD τ).loc main_arg5) (ix2 κ d) := by
  rw [wBlk_eq]
  unfold V
  repeat after_reads_at
  all_goals rfl

/-- Projection 2's biases in the stack. -/
theorem wall_2b (c : Dev nD) (d : Fin 64) :
    wBlk m c (ix3 2 1024 d) = m ((c.tc : Thread nD τ).loc main_arg6) (ix1 d) := by
  rw [wBlk_eq]
  unfold V
  repeat after_reads_at
  all_goals rfl

end Cert.KernelIdeal.Att

end
-- ==== Proof.RefValue.lean ====
/- What the reference computes, at an index: the softmax of the masked, scaled scores, and its product with the values. -/
module

public import proofs.«01_k».proof.Proof.Gen.ReferenceIdeal.Read
public import Idealize.ShloMosaic.Lib.Pointwise

@[expose] public section

noncomputable section

namespace Cert.ReferenceIdeal.Att

open Cert.ReferenceIdeal Cert.ReferenceIdeal.Gen Cert.ReferenceIdeal.Read
open Idealize.ShloMosaic Idealize.ShloMosaic.TcCoe Idealize.ShloMosaic.Tactic
open scoped BigOperators

/-- A projection of the input: one row times the weights, plus the biases. -/
def proj (x : Vec Ideal S1x2048x1024 .f32) (w : Vec Ideal S1024x64 .f32) (b : Vec Ideal S64 .f32) (i : Fin 2048) (d : Fin 64) : EReal :=
  (∑ κ : Fin 1024, x (ix3 0 i κ) * w (ix2 κ d)) + b (ix1 d)

variable (x0 : Vec Ideal S1x2048x1024 .f32) (x1 : Vec Ideal S1024x64 .f32) (x2 : Vec Ideal S64 .f32) (x3 : Vec Ideal S1024x64 .f32) (x4 : Vec Ideal S64 .f32) (x5 : Vec Ideal S1024x64 .f32) (x6 : Vec Ideal S64 .f32)

/-- The queries. -/
theorem ref_q (i : Fin 2048) (d : Fin 64) : val_main_v3 (F := Ideal) x0 x1 x2 (ix3 0 i d) = proj x0 x1 x2 i d := by
  unfold val_main_v3 val_main_v2 val_main_v1 val_main_v0 proj
  pointwise

/-- The keys. -/
theorem ref_k (i : Fin 2048) (d : Fin 64) : val_main_v7 (F := Ideal) x0 x3 x4 (ix3 0 i d) = proj x0 x3 x4 i d := by
  unfold val_main_v7 val_main_v6 val_main_v5 val_main_v4 proj
  pointwise

/-- The values. -/
theorem ref_v (i : Fin 2048) (d : Fin 64) : val_main_v11 (F := Ideal) x0 x5 x6 (ix3 0 i d) = proj x0 x5 x6 i d := by
  unfold val_main_v11 val_main_v10 val_main_v9 val_main_v8 proj
  pointwise

/-- A score: query times key, over 32. -/
def score (i c : Fin 2048) : EReal :=
  Ideal.div (∑ e : Fin 64, proj x0 x1 x2 i e * proj x0 x3 x4 c e) (Ideal.ofBits .f32 0x42000000#32)

/-- The scores, at an index. -/
theorem ref_score (i c : Fin 2048) : val_main_v18 (F := Ideal) x0 x1 x2 x3 x4 (ix3 0 i c) = score x0 x1 x2 x3 x4 i c := by
  have h : val_main_v18 (F := Ideal) x0 x1 x2 x3 x4 (ix3 0 i c)
      = Ideal.div (∑ e : Fin 64, val_main_v3 (F := Ideal) x0 x1 x2 (ix3 0 i e) * val_main_v7 (F := Ideal) x0 x3 x4 (ix3 0 c e)) (Ideal.ofBits .f32 0x42000000#32) := by
    unfold val_main_v18 val_main_v17 val_main_v16 val_main_v15 val_main_v14 val_main_v13 val_main_v12 val_main_cst
    generalize val_main_v3 (F := Ideal) x0 x1 x2 = y
    generalize val_main_v7 (F := Ideal) x0 x3 x4 = z
    pointwise
  rw [h]
  simp only [ref_q, ref_k]
  rfl

/-- The comparison of a row and a column, as numbers. -/
theorem select_ge (i c : Fin 2048) (a b : EReal) :
    Scalar.select (IntOp.cmpi CmpIPredicate.sge (IntOp.addi (BitVec.ofNat 32 i.val) 0#32) (BitVec.ofNat 32 c.val)) a b = if c.val ≤ i.val then a else b := by
  have e : (BitVec.ofNat 32 c.val).sle (BitVec.ofNat 32 i.val) = decide (c.val ≤ i.val) := by
    have hx := c.isLt; have hr := i.isLt
    rw [BitVec.sle_eq_decide, BitVec.toInt_eq_toNat_of_lt (by rw [BitVec.toNat_ofNat]; omega), BitVec.toInt_eq_toNat_of_lt (by rw [BitVec.toNat_ofNat]; omega),
      BitVec.toNat_ofNat, BitVec.toNat_ofNat, Nat.mod_eq_of_lt (by omega), Nat.mod_eq_of_lt (by omega)]
    exact decide_eq_decide.mpr Int.ofNat_le
  by_cases h : c.val ≤ i.val
  · rw [if_pos h]
    have : IntOp.cmpi CmpIPredicate.sge (IntOp.addi (BitVec.ofNat 32 i.val) 0#32) (BitVec.ofNat 32 c.val) = 1#1 := by
      simp [IntOp.cmpi, IntOp.addi, e, h]
    rw [this]; rfl
  · rw [if_neg h]
    have : IntOp.cmpi CmpIPredicate.sge (IntOp.addi (BitVec.ofNat 32 i.val) 0#32) (BitVec.ofNat 32 c.val) = 0#1 := by
      simp [IntOp.cmpi, IntOp.addi, e, h]
    rw [this]; rfl

/-- The pattern of minus infinity. -/
theorem bits_bot : Ideal.ofBits .f32 0xFF800000#32 = (⊥ : EReal) := by
  simp [Ideal.ofBits, Ideal.ieee]

/-- What the mask puts in place of a score. -/
theorem ref_fill : val_main_call1_v0 (F := Ideal) ix0 = (⊥ : EReal) := bits_bot
/-- Where the row maximum starts. -/
theorem ref_start : val_main_cst_3 (F := Ideal) ix0 = (⊥ : EReal) := bits_bot
/-- What the row maximum is compared with. -/
theorem ref_low (i : Fin 2048) : val_main_v25 (F := Ideal) (ix2 0 i) = (⊥ : EReal) :=
  (val_main_v25_apply (F := Ideal) _).trans bits_bot

/-- The masked scores. -/
theorem ref_masked (i c : Fin 2048) : val_main_v23 (F := Ideal) x0 x1 x2 x3 x4 (ix3 0 i c)
    = if c.val ≤ i.val then score x0 x1 x2 x3 x4 i c else ⊥ := by
  have h : val_main_v23 (F := Ideal) x0 x1 x2 x3 x4 (ix3 0 i c)
      = if (Scalar.select (IntOp.cmpi CmpIPredicate.sge (IntOp.addi (BitVec.ofNat 32 i.val) 0#32) (BitVec.ofNat 32 c.val)) 1 0 : EReal) = 0
        then val_main_call1_v0 (F := Ideal) ix0 else val_main_v18 (F := Ideal) x0 x1 x2 x3 x4 (ix3 0 i c) := by
    unfold val_main_v23 val_main_call1_v1 val_main_call1_v2 val_main_v22 val_main_v21 val_main_cst_1 val_main_v20 val_main_call0_v5 val_main_call0_cst val_main_call0_v4 val_main_call0_v3 val_main_call0_v2 val_main_call0_v1 val_main_call0_v0 val_main_call0_c val_main_v19 val_main_cst_0
    generalize val_main_v18 (F := Ideal) x0 x1 x2 x3 x4 = y
    generalize val_main_call1_v0 (F := Ideal) = z
    pointwise
  rw [h, select_ge, ref_score, ref_fill]
  by_cases hc : c.val ≤ i.val
  · rw [if_pos hc, if_pos hc, if_neg one_ne_zero]
  · rw [if_neg hc, if_neg hc, if_pos rfl]

/-- The row maximum, from minus infinity. -/
theorem ref_max (i : Fin 2048) : val_main_v24 (F := Ideal) x0 x1 x2 x3 x4 (ix2 0 i)
    = Finset.univ.fold max (⊥ : EReal) (fun c : Fin 2048 => if c.val ≤ i.val then score x0 x1 x2 x3 x4 i c else ⊥) := by
  have h : val_main_v24 (F := Ideal) x0 x1 x2 x3 x4 (ix2 0 i)
      = Finset.univ.fold max (val_main_cst_3 (F := Ideal) ix0) (fun c : Fin 2048 => val_main_v23 (F := Ideal) x0 x1 x2 x3 x4 (ix3 0 i c)) := by
    unfold val_main_v24
    generalize val_main_v23 (F := Ideal) x0 x1 x2 x3 x4 = y
    generalize val_main_cst_3 (F := Ideal) = z
    pointwise
    exact congrArg (fun t => Finset.fold max (z t) _ _) (Subsingleton.elim _ _)
  rw [h, ref_start]
  simp only [ref_masked]

/-- The shift of row `i`. -/
theorem ref_shift (i : Fin 2048) : val_main_v26 (F := Ideal) x0 x1 x2 x3 x4 (ix2 0 i)
    = Finset.univ.fold max (⊥ : EReal) (fun c : Fin 2048 => if c.val ≤ i.val then score x0 x1 x2 x3 x4 i c else ⊥) := by
  have hm : ∀ a b : Ideal .f32, FloatOps.maximumf a b = (max a b : EReal) := fun _ _ => rfl
  rw [val_main_v26_apply, hm, ref_low, ref_max]
  exact max_eq_right bot_le

/-- The weights before they are normalized. -/
theorem ref_weight (i c : Fin 2048) : val_main_v30 (F := Ideal) x0 x1 x2 x3 x4 (ix3 0 i c)
    = Ideal.exp (val_main_v23 (F := Ideal) x0 x1 x2 x3 x4 (ix3 0 i c) - val_main_v26 (F := Ideal) x0 x1 x2 x3 x4 (ix2 0 i)) := by
  unfold val_main_v30 val_main_v29 val_main_v28 val_main_v27
  generalize val_main_v23 (F := Ideal) x0 x1 x2 x3 x4 = y
  generalize val_main_v26 (F := Ideal) x0 x1 x2 x3 x4 = z
  pointwise

/-- The normalized weights. -/
theorem ref_norm (i c : Fin 2048) : val_main_v34 (F := Ideal) x0 x1 x2 x3 x4 (ix3 0 i c)
    = Ideal.div (val_main_v30 (F := Ideal) x0 x1 x2 x3 x4 (ix3 0 i c)) (∑ j : Fin 2048, val_main_v30 (F := Ideal) x0 x1 x2 x3 x4 (ix3 0 i j)) := by
  unfold val_main_v34 val_main_v33 val_main_v32 val_main_v31 val_main_cst_5
  generalize val_main_v30 (F := Ideal) x0 x1 x2 x3 x4 = y
  pointwise

/-- The output is the normalized weights times the values. -/
theorem ref_out (i : Fin 2048) (d : Fin 64) : val_main_v38 (F := Ideal) x0 x1 x2 x3 x4 x5 x6 (ix3 0 i d)
    = ∑ j : Fin 2048, val_main_v34 (F := Ideal) x0 x1 x2 x3 x4 (ix3 0 i j) * val_main_v11 (F := Ideal) x0 x5 x6 (ix3 0 j d) := by
  unfold val_main_v38 val_main_v37 val_main_v36 val_main_v35
  generalize val_main_v34 (F := Ideal) x0 x1 x2 x3 x4 = y
  generalize val_main_v11 (F := Ideal) x0 x5 x6 = z
  pointwise

/-- The largest score of row `i`, over the columns up to `i`. -/
def top (i : Fin 2048) : EReal :=
  Finset.univ.fold max (⊥ : EReal) (fun c : Fin 2048 => if c.val ≤ i.val then score x0 x1 x2 x3 x4 i c else ⊥)

/-- The weight of column `c` in row `i`, before it is normalized. -/
def weight (i c : Fin 2048) : EReal :=
  Ideal.exp ((if c.val ≤ i.val then score x0 x1 x2 x3 x4 i c else ⊥) - top x0 x1 x2 x3 x4 i)

/-- The reference's output, at an index. -/
theorem ref_value (i : Fin 2048) (d : Fin 64) : val_main_v38 (F := Ideal) x0 x1 x2 x3 x4 x5 x6 (ix3 0 i d)
    = ∑ j : Fin 2048, Ideal.div (weight x0 x1 x2 x3 x4 i j) (∑ c : Fin 2048, weight x0 x1 x2 x3 x4 i c) * proj x0 x5 x6 j d := by
  rw [ref_out]
  simp only [ref_norm, ref_weight, ref_masked, ref_shift, ref_v]
  rfl

end Cert.ReferenceIdeal.Att

end
-- ==== Proof.Softmax.lean ====
/- The equation of extended reals behind the claim: a softmax with its shift and its mask is the plain ratio of sums. -/
module

public import Idealize.ShloMosaic.PureOps.Ideal.Laws

@[expose] public section

noncomputable section

namespace Cert.AttMath

open Idealize.ShloMosaic
open scoped BigOperators

/-- The pattern of 1/32. -/
theorem bits_scale : Ideal.ofBits .f32 0x3D000000#32 = ((1 / 32 : ℝ) : EReal) := by
  simp [Ideal.ofBits, Ideal.ieee]
  rw [← EReal.coe_mul]
  norm_num

/-- The pattern of 32. -/
theorem bits_32 : Ideal.ofBits .f32 0x42000000#32 = ((32 : ℝ) : EReal) := by
  simp [Ideal.ofBits, Ideal.ieee]
  rw [← EReal.coe_mul]
  norm_num

/-- The exponential of a real. -/
theorem exp_coe (r : ℝ) : Ideal.exp (r : EReal) = ((Real.exp r : ℝ) : EReal) := rfl

/-- A real over a nonzero real. -/
theorem div_real (a b : ℝ) (hb : b ≠ 0) : Ideal.div (a : EReal) (b : EReal) = ((a / b : ℝ) : EReal) := by
  unfold Ideal.div
  rw [if_neg (by exact_mod_cast hb), ← EReal.coe_inv, ← EReal.coe_mul, div_eq_mul_inv]

/-- A sum of reals is a real. -/
theorem sum_coe {ι : Type} (t : Finset ι) (f : ι → ℝ) : (∑ i ∈ t, ((f i : ℝ) : EReal)) = ((∑ i ∈ t, f i : ℝ) : EReal) := by
  classical
  induction t using Finset.induction_on with
  | empty => simp
  | insert a t ha ih => rw [Finset.sum_insert ha, Finset.sum_insert ha, ih, EReal.coe_add]

/-- A nonnegative real factor goes under a sum of extended reals. -/
theorem sum_mul_coe {ι : Type} (t : Finset ι) (f : ι → EReal) (r : ℝ) (hr : 0 ≤ r) :
    (∑ i ∈ t, f i) * (r : EReal) = ∑ i ∈ t, f i * (r : EReal) := by
  classical
  induction t using Finset.induction_on with
  | empty => simp
  | insert a t ha ih =>
    rw [Finset.sum_insert ha, Finset.sum_insert ha, ← ih]
    exact EReal.right_distrib_of_nonneg_of_ne_top (by exact_mod_cast hr) (EReal.coe_ne_top r) _ _

/-- The largest of a row's reals, over the places where the mask holds, is a real. -/
theorem max_real {n : ℕ} (s : Fin n → ℝ) (P : Fin n → Prop) [DecidablePred P] (i : Fin n) (hi : P i) :
    ∃ r : ℝ, Finset.univ.fold max (⊥ : EReal) (fun c => if P c then ((s c : ℝ) : EReal) else ⊥) = (r : EReal) := by
  obtain ⟨c, _, hc⟩ := Finset.exists_mem_eq_sup (Finset.univ : Finset (Fin n)) ⟨i, Finset.mem_univ i⟩
    (fun c => if P c then ((s c : ℝ) : EReal) else ⊥)
  have hle : (if P i then ((s i : ℝ) : EReal) else ⊥) ≤ Finset.univ.sup (fun c => if P c then ((s c : ℝ) : EReal) else ⊥) :=
    Finset.le_sup (f := fun c => if P c then ((s c : ℝ) : EReal) else ⊥) (Finset.mem_univ i)
  rw [if_pos hi, hc] at hle
  have hf : Finset.univ.fold max (⊥ : EReal) (fun c => if P c then ((s c : ℝ) : EReal) else ⊥)
      = Finset.univ.sup (fun c => if P c then ((s c : ℝ) : EReal) else ⊥) := rfl
  rw [hf, hc]
  by_cases h : P c
  · exact ⟨s c, if_pos h⟩
  · simp only [if_neg h] at hle
    exact absurd hle (not_le_of_gt (EReal.bot_lt_coe _))

/-- The softmax, shifted by any real and masked by minus infinity, times the values, is the ratio of the plain sums. -/
theorem softmax_eq {n : ℕ} (s : Fin n → ℝ) (P : Fin n → Prop) [DecidablePred P] (i : Fin n) (hi : P i) (M : ℝ) (v : Fin n → EReal) :
    (∑ j, Ideal.div (Ideal.exp ((if P j then ((s j : ℝ) : EReal) else ⊥) - (M : EReal)))
        (∑ c, Ideal.exp ((if P c then ((s c : ℝ) : EReal) else ⊥) - (M : EReal))) * v j)
      = (∑ j, if P j then Ideal.exp ((s j : ℝ) : EReal) * v j else 0)
        * Ideal.div 1 (∑ c, if P c then Ideal.exp ((s c : ℝ) : EReal) * 1 else 0) := by
  have hw : ∀ j, Ideal.exp ((if P j then ((s j : ℝ) : EReal) else ⊥) - (M : EReal))
      = (((if P j then Real.exp (s j) else 0) * Real.exp (-M) : ℝ) : EReal) := by
    intro j
    by_cases h : P j
    · rw [if_pos h, if_pos h, ← EReal.coe_sub, exp_coe, ← Real.exp_add, sub_eq_add_neg]
    · rw [if_neg h, if_neg h, EReal.bot_sub, zero_mul]; rfl
  have hu : ∀ j, (if P j then Ideal.exp ((s j : ℝ) : EReal) * 1 else 0 : EReal) = ((if P j then Real.exp (s j) else 0 : ℝ) : EReal) := by
    intro j
    by_cases h : P j
    · rw [if_pos h, if_pos h, exp_coe, mul_one]
    · rw [if_neg h, if_neg h]; rfl
  have hv : ∀ j, (if P j then Ideal.exp ((s j : ℝ) : EReal) * v j else 0 : EReal) = ((if P j then Real.exp (s j) else 0 : ℝ) : EReal) * v j := by
    intro j
    by_cases h : P j
    · rw [if_pos h, if_pos h, exp_coe]
    · rw [if_neg h, if_neg h, EReal.coe_zero, zero_mul]
  simp only [hw, hu, hv, sum_coe]
  have hpos : 0 < ∑ c, (if P c then Real.exp (s c) else 0 : ℝ) := by
    refine Finset.sum_pos' (fun c _ => ?_) ⟨i, Finset.mem_univ i, ?_⟩
    · by_cases h : P c
      · rw [if_pos h]; exact (Real.exp_pos _).le
      · rw [if_neg h]
    · rw [if_pos hi]; exact Real.exp_pos _
  rw [← Finset.sum_mul]
  generalize hZ : (∑ c, (if P c then Real.exp (s c) else 0 : ℝ)) = Z at hpos ⊢
  have hM := Real.exp_pos (-M)
  have h1 : Ideal.div (1 : EReal) (Z : EReal) = ((1 / Z : ℝ) : EReal) := by
    rw [← EReal.coe_one, div_real 1 Z hpos.ne']
  rw [h1, sum_mul_coe _ _ _ (by positivity)]
  refine Finset.sum_congr rfl fun j _ => ?_
  rw [div_real _ _ (mul_pos hpos hM).ne', mul_right_comm, ← EReal.coe_mul]
  congr 2
  field_simp

/-- The kernel's scaled queries: scaling the weights and the biases scales the projection. -/
theorem scaled_proj {n : ℕ} (x w : Fin n → EReal) (b : EReal) (r : ℝ) (hr : 0 ≤ r) :
    (∑ κ, x κ * (w κ * (r : EReal))) + b * (r : EReal) = ((∑ κ, x κ * w κ) + b) * (r : EReal) := by
  rw [EReal.right_distrib_of_nonneg_of_ne_top (by exact_mod_cast hr) (EReal.coe_ne_top r), sum_mul_coe _ _ _ hr]
  simp only [mul_assoc]

end Cert.AttMath

end
-- ==== Proof.Value.lean ====
/- The equation: from finite inputs the kernel's output array is the reference's. -/
module

public import proofs.«01_k».proof.Proof.Wall
public import proofs.«01_k».proof.Proof.RefValue
public import proofs.«01_k».proof.Proof.Softmax

@[expose] public section

set_option maxRecDepth 16384

noncomputable section

namespace Cert.KernelIdeal.Att

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Cert.ReferenceIdeal.Att (proj score top weight ref_value)
open Cert.AttMath

variable (m : (ℓ : Loc nD τ sig) → Buf (Elt Ideal) ℓ)

/-- The arguments, as arrays. -/
abbrev inX (c : Dev nD) : Vec Ideal S1x2048x1024 .f32 := m ((c.tc : Thread nD τ).loc main_arg0)
/-- The query weights. -/
abbrev inWq (c : Dev nD) : Vec Ideal S1024x64 .f32 := m ((c.tc : Thread nD τ).loc main_arg1)
/-- The query biases. -/
abbrev inBq (c : Dev nD) : Vec Ideal S64 .f32 := m ((c.tc : Thread nD τ).loc main_arg2)
/-- The key weights. -/
abbrev inWk (c : Dev nD) : Vec Ideal S1024x64 .f32 := m ((c.tc : Thread nD τ).loc main_arg3)
/-- The key biases. -/
abbrev inBk (c : Dev nD) : Vec Ideal S64 .f32 := m ((c.tc : Thread nD τ).loc main_arg4)
/-- The value weights. -/
abbrev inWv (c : Dev nD) : Vec Ideal S1024x64 .f32 := m ((c.tc : Thread nD τ).loc main_arg5)
/-- The value biases. -/
abbrev inBv (c : Dev nD) : Vec Ideal S64 .f32 := m ((c.tc : Thread nD τ).loc main_arg6)

/-- The kernel's queries are the projection's, scaled. -/
theorem kernel_q (c : Dev nD) (i : Fin 2048) (d : Fin 64) :
    allQ (xBlk m c) (packW (wBlk m c)) (packB (wBlk m c)) (ix2 i d) = proj (inX m c) (inWq m c) (inBq m c) i d * ((1 / 32 : ℝ) : EReal) := by
  rw [allQ_apply]
  simp only [xBlk_apply, wall_0, wall_0b, row_blk, scale, bits_scale]
  exact scaled_proj (fun κ : Fin 1024 => inX m c (ix3 0 i κ)) (fun κ => inWq m c (ix2 κ d)) (inBq m c (ix1 d)) (1 / 32) (by norm_num)

/-- The kernel's keys are the projection's. -/
theorem kernel_k (c : Dev nD) (i : Fin 2048) (d : Fin 64) :
    allK (xBlk m c) (packW (wBlk m c)) (packB (wBlk m c)) (ix2 d i) = proj (inX m c) (inWk m c) (inBk m c) i d := by
  rw [allK_apply]
  simp only [xBlk_apply, wall_1, wall_1b, row_blk]
  rfl

/-- The kernel's values are the projection's. -/
theorem kernel_v (c : Dev nD) (i : Fin 2048) (d : Fin 64) :
    allV (xBlk m c) (packW (wBlk m c)) (packB (wBlk m c)) (ix2 i ⟨d.val, by omega⟩) = proj (inX m c) (inWv m c) (inBv m c) i d := by
  rw [allV_apply]
  simp only [xBlk_apply, wall_2, wall_2b, row_blk]
  rfl

/-- A projection of finite arrays is finite. -/
theorem proj_real (x : Vec Ideal S1x2048x1024 .f32) (w : Vec Ideal S1024x64 .f32) (b : Vec Ideal S64 .f32)
    (hx : ∀ i, ∃ r : ℝ, x i = (r : EReal)) (hw : ∀ i, ∃ r : ℝ, w i = (r : EReal)) (hb : ∀ i, ∃ r : ℝ, b i = (r : EReal)) (i : Fin 2048) (d : Fin 64) :
    ∃ r : ℝ, proj x w b i d = (r : EReal) := by
  choose fx hx using hx
  choose fw hw using hw
  choose fb hb using hb
  refine ⟨(∑ κ : Fin 1024, fx (ix3 0 i κ) * fw (ix2 κ d)) + fb (ix1 d), ?_⟩
  unfold proj
  simp only [hx, hw, hb, ← EReal.coe_mul, sum_coe, ← EReal.coe_add]

/-- From finite inputs the kernel's output and the reference's agree at every index. -/
theorem value_eq (c : Dev nD) (h0 : ∀ i, ∃ r : ℝ, inX m c i = (r : EReal)) (h1 : ∀ i, ∃ r : ℝ, inWq m c i = (r : EReal)) (h2 : ∀ i, ∃ r : ℝ, inBq m c i = (r : EReal))
    (h3 : ∀ i, ∃ r : ℝ, inWk m c i = (r : EReal)) (h4 : ∀ i, ∃ r : ℝ, inBk m c i = (r : EReal)) (i : Fin 2048) (d : Fin 64) :
    result m c (ix3 0 i d)
      = Cert.ReferenceIdeal.Read.val_main_v38 (F := Ideal) (inX m c) (inWq m c) (inBq m c) (inWk m c) (inBk m c) (inWv m c) (inBv m c) (ix3 0 i d) := by
  have hq := proj_real _ _ _ h0 h1 h2
  have hk := proj_real _ _ _ h0 h3 h4
  choose fq hq using hq
  choose fk hk using hk
  have hs : ∀ i c', score (inX m c) (inWq m c) (inBq m c) (inWk m c) (inBk m c) i c' = (((∑ e : Fin 64, fq i e * fk c' e) / 32 : ℝ) : EReal) := by
    intro i c'
    unfold score
    simp only [hq, hk, ← EReal.coe_mul, sum_coe, bits_32]
    rw [div_real _ _ (by norm_num)]
  have hd : ∀ i c', (∑ e : Fin 64, allQ (xBlk m c) (packW (wBlk m c)) (packB (wBlk m c)) (ix2 i e) * allK (xBlk m c) (packW (wBlk m c)) (packB (wBlk m c)) (ix2 e c'))
      = (((∑ e : Fin 64, fq i e * fk c' e) / 32 : ℝ) : EReal) := by
    intro i c'
    simp only [kernel_q, kernel_k, hq, hk, ← EReal.coe_mul, sum_coe]
    congr 1
    rw [Finset.sum_div]
    refine Finset.sum_congr rfl fun e _ => ?_
    ring
  obtain ⟨M, hM⟩ := max_real (fun c' : Fin 2048 => (∑ e : Fin 64, fq i e * fk c' e) / 32) (fun c' => c'.val ≤ i.val) i le_rfl
  have hL : result m c (ix3 0 i d) = (∑ j : Fin 2048, if j.val ≤ i.val then Ideal.exp (((∑ e : Fin 64, fq i e * fk j e) / 32 : ℝ) : EReal) * proj (inX m c) (inWv m c) (inBv m c) j d else 0)
      * Ideal.div 1 (∑ j : Fin 2048, if j.val ≤ i.val then Ideal.exp (((∑ e : Fin 64, fq i e * fk j e) / 32 : ℝ) : EReal) * 1 else 0) := by
    unfold result
    rw [out_apply]
    unfold attn term
    simp only [hd, kernel_v, allV_one]
  rw [hL, ref_value]
  unfold weight top
  simp only [hs, hM]
  exact (softmax_eq (fun c' : Fin 2048 => (∑ e : Fin 64, fq i e * fk c' e) / 32) (fun c' => c'.val ≤ i.val) i le_rfl M
    (fun j => proj (inX m c) (inWv m c) (inBv m c) j d)).symm

/-- From finite inputs the kernel's output array is the reference's. -/
theorem array_eq (c : Dev nD) (h0 : ∀ i, ∃ r : ℝ, inX m c i = (r : EReal)) (h1 : ∀ i, ∃ r : ℝ, inWq m c i = (r : EReal)) (h2 : ∀ i, ∃ r : ℝ, inBq m c i = (r : EReal))
    (h3 : ∀ i, ∃ r : ℝ, inWk m c i = (r : EReal)) (h4 : ∀ i, ∃ r : ℝ, inBk m c i = (r : EReal)) :
    result m c
      = Cert.ReferenceIdeal.Read.val_main_v38 (F := Ideal) (inX m c) (inWq m c) (inBq m c) (inWk m c) (inBk m c) (inWv m c) (inBv m c) := by
  funext y
  have h := value_eq m c h0 h1 h2 h3 h4 (y 1) (y 2)
  have hy : y = ix3 0 (y 1) (y 2) := by
    funext a
    match a with
    | ⟨0, _⟩ => exact Fin.ext (by have := (y 0).isLt; show (y 0).val = 0; change (y 0).val < 1 at this; omega)
    | ⟨1, _⟩ => rfl
    | ⟨2, _⟩ => rfl
  rw [hy]
  exact h

end Cert.KernelIdeal.Att

end
-- ==== Proof.Finite.lean ====
/- What the precondition says: the input, and the weights and biases of the queries and the keys, are finite. -/
module

public import proofs.«01_k».proof.Pre_finite_inputs
public import Idealize.ShloMosaic.PureOps.Ideal.Laws
public import Idealize.ShloMosaic.Lib.ReduceAll

@[expose] public section

noncomputable section

namespace Cert.Pre_finite_inputs.Att

open Cert.Pre_finite_inputs
open Idealize.ShloMosaic

/-- The side conditions of the precondition's operations. -/
theorem facts : Facts where
  bcast_S_S1x2048x1024 := by decide
  reducesTo_S1x2048x1024_S_d0_1_2 := by decide
  h_S_ := by decide
  bcast_S_S1024x64 := by decide
  reducesTo_S1024x64_S_d0_1 := by decide
  bcast_S_S64 := by decide
  reducesTo_S64_S_d0 := by decide

attribute [local instance] facts

/-- The pattern of plus infinity. -/
theorem bits_top : Ideal.ofBits .f32 0x7F800000#32 = (⊤ : EReal) := by
  simp [Ideal.ofBits, Ideal.ieee]

/-- An extended real whose absolute value is below plus infinity is a real. -/
theorem real_of_abs (a : EReal) (h : Ideal.cmp .olt (max a (-a)) (⊤ : EReal) = 1#1) : ∃ r : ℝ, a = (r : EReal) := by
  have hlt : max a (-a) < ⊤ := by
    by_contra hn
    simp [Ideal.cmp, hn] at h
  have h1 : a ≠ ⊤ := fun e => by simp [e] at hlt
  have h2 : a ≠ ⊥ := fun e => by simp [e] at hlt
  exact ⟨a.toReal, (EReal.coe_toReal h1 h2).symm⟩

/-- One array's check, at an index. -/
theorem check_at {s : Shape} {axes : List (Fin s.rank)} (x : FVec Ideal s .f32) (hb : S_.BroadcastsInDim s (![] : Fin 0 → Fin s.rank)) (hr : s.ReducesTo axes S_)
    (hu : 0 < S_.numel) (j : S_.Idx)
    (h : Host.reduce IntOp.andi (cmpf .olt (Host.absf x) (broadcastInDim s ![] hb (constant S_ .f32 0x7F800000#32))) (constantI S_ 1 1#1) hr hu j = 1#1)
    (i : s.Idx) : ∃ r : ℝ, x i = (r : EReal) := by
  have : Subsingleton S_.Idx := ⟨fun a b => funext fun k => k.elim0⟩
  have e := Host.reduce_andi_all _ _ hr hu j h i
  refine real_of_abs (x i) ?_
  rw [← bits_top]
  exact e

/-- The precondition's content. -/
theorem finite (a0 : FVec Ideal S1x2048x1024 .f32) (a1 : FVec Ideal S1024x64 .f32) (a2 : FVec Ideal S64 .f32) (a3 : FVec Ideal S1024x64 .f32) (a4 : FVec Ideal S64 .f32)
    (a5 : FVec Ideal S1024x64 .f32) (a6 : FVec Ideal S64 .f32) (a7 : FVec Ideal S1 .f32) (a8 : FVec Ideal S32768x64 .f32) (a9 : FVec Ideal S32768x64 .f32)
    (j : S_.Idx) (h : fn (F := Ideal) a0 a1 a2 a3 a4 a5 a6 a7 a8 a9 j = 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) := by
  dsimp only [fn, fn_part1] at h
  obtain ⟨h, h4⟩ := IntOp.andi_eq_one.1 h
  obtain ⟨h, h3⟩ := IntOp.andi_eq_one.1 h
  obtain ⟨h, h2⟩ := IntOp.andi_eq_one.1 h
  obtain ⟨h0, h1⟩ := IntOp.andi_eq_one.1 h
  exact ⟨check_at a0 _ _ _ _ h0, check_at a1 _ _ _ _ h1, check_at a2 _ _ _ _ h2, check_at a3 _ _ _ _ h3, check_at a4 _ _ _ _ h4⟩

end Cert.Pre_finite_inputs.Att

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Frame
public import proofs.«01_k».proof.Proof.Same
public import proofs.«01_k».proof.Proof.Value
public import proofs.«01_k».proof.Proof.Finite
public import Idealize.ShloMosaic.Lib.Quiescent

@[expose] public section

noncomputable section

namespace Cert.Proof

open Idealize.ShloMosaic Idealize.SL.Sem

attribute [local instance] Cert.Kernel.Gen.facts Cert.KernelIdeal.Gen.facts Cert.ReferenceIdeal.Gen.facts Cert.Pre_finite_inputs.Att.facts

/-- The kernel runs, keeps its arguments and leaves every counter at zero. -/
theorem frame_kernel : Cert.quiescent_Kernel := by
  intro m g _
  rw [Cert.KernelIdeal.Att.same_defs, Cert.KernelIdeal.Att.same_main]
  exact Cert.KernelIdeal.Att.frame (F := Bits) m g

/-- So does the kernel over the extended reals. -/
theorem frame_ideal : Cert.quiescent_KernelIdeal := fun m g _ => Cert.KernelIdeal.Att.frame m g

/-- So does the reference, which has no counter at all. -/
theorem frame_reference : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

/-- From finite inputs that agree, the kernel and the reference end with equal results. -/
theorem algebraic : Cert.algebraic_KernelIdeal_ReferenceIdeal_pre_finite_inputs := by
  intro m g m' g' hpre hag
  refine ⟨fun c => Cert.KernelIdeal.Att.result m c, Cert.KernelIdeal.Att.run_value m g, ?_⟩
  refine (θ_run Cert.ReferenceIdeal.defs _ _).mono (fun r h c => ⟨(h c).1.trans ?_, (h c).2⟩) (Cert.ReferenceIdeal.Value.run (F := Ideal) m' g')
  obtain ⟨e0, e1, e2, e3, e4, e5, e6, -, -, -⟩ := hag c
  obtain ⟨h0, h1, h2, h3, h4⟩ := Cert.Pre_finite_inputs.Att.finite _ _ _ _ _ _ _ _ _ _ _ (congrFun (hpre c) (fun a => a.elim0))
  refine (Cert.ReferenceIdeal.Read.val_main_v38_eq m' c).trans ?_
  rw [e0, e1, e2, e3, e4, e5, e6]
  exact (Cert.KernelIdeal.Att.array_eq m c h0 h1 h2 h3 h4).symm

/-- Everything claimed. -/
theorem claim : Cert.Claim :=
  ⟨Cert.Kernel.Gen.facts, Cert.KernelIdeal.Gen.facts, Cert.ReferenceIdeal.Gen.facts, Cert.Pre_finite_inputs.Att.facts,
    frame_kernel, frame_ideal, fun m g _ => frame_ideal m g trivial, frame_reference, fun m g _ => frame_reference m g trivial, trivial, algebraic⟩

end Cert.Proof

end
